-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_RefGateupIdeal (m : (ℓ : Loc Cert.RefGateupIdeal.nD Cert.RefGateupIdeal.τ Cert.RefGateupIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2)
      ∧ r.2.mem ((c.tc : Thread Cert.Gateup.nD Cert.Gateup.τ).loc Cert.Gateup.main_arg3) = m ((c.tc : Thread Cert.Gateup.nD Cert.Gateup.τ).loc Cert.Gateup.main_arg3))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
      ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3))
      ∧ r.2.sem = fun _ => 0)

def quiescent_RefGateupIdeal [hRefGateupIdeal : Cert.RefGateupIdeal.Facts] : Prop :=
  ∀ (m : (ℓ : Loc Cert.RefGateupIdeal.nD Cert.RefGateupIdeal.τ Cert.RefGateupIdeal.sig) → Buf (Elt Ideal) ℓ) (g : Dev Cert.RefGateupIdeal.nD → PrngReg), Pre_RefGateupIdeal m →
    θ_run (Cert.RefGateupIdeal.defs (F := Ideal)) (onTc (τ := Cert.RefGateupIdeal.τ) (Cert.RefGateupIdeal.main (F := Ideal))) ⟨m, fun _ => 0, g⟩ (fun r => (∀ c : Dev Cert.RefGateupIdeal.nD,
      r.2.mem ((c.tc : Thread Cert.RefGateupIdeal.nD Cert.RefGateupIdeal.τ).loc Cert.RefGateupIdeal.main_arg0) = m ((c.tc : Thread Cert.RefGateupIdeal.nD Cert.RefGateupIdeal.τ).loc Cert.RefGateupIdeal.main_arg0)
      ∧ r.2.mem ((c.tc : Thread Cert.RefGateupIdeal.nD Cert.RefGateupIdeal.τ).loc Cert.RefGateupIdeal.main_arg1) = m ((c.tc : Thread Cert.RefGateupIdeal.nD Cert.RefGateupIdeal.τ).loc Cert.RefGateupIdeal.main_arg1)
      ∧ r.2.mem ((c.tc : Thread Cert.RefGateupIdeal.nD Cert.RefGateupIdeal.τ).loc Cert.RefGateupIdeal.main_arg2) = m ((c.tc : Thread Cert.RefGateupIdeal.nD Cert.RefGateupIdeal.τ).loc Cert.RefGateupIdeal.main_arg2)
      ∧ r.2.mem ((c.tc : Thread Cert.RefGateupIdeal.nD Cert.RefGateupIdeal.τ).loc Cert.RefGateupIdeal.main_arg3) = m ((c.tc : Thread Cert.RefGateupIdeal.nD Cert.RefGateupIdeal.τ).loc Cert.RefGateupIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gateup_GateupIdeal : Prop :=
  True

def algebraic_GateupIdeal_RefGateupIdeal [hGateupIdeal : Cert.GateupIdeal.Facts] [hRefGateupIdeal : Cert.RefGateupIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.RefGateupIdeal.nD Cert.RefGateupIdeal.τ Cert.RefGateupIdeal.sig) → Buf (Elt Ideal) ℓ) (g' : Dev Cert.RefGateupIdeal.nD → PrngReg), Pre_GateupIdeal m →
    (∀ c : Dev Cert.GateupIdeal.nD,
      m' ((c.tc : Thread Cert.RefGateupIdeal.nD Cert.RefGateupIdeal.τ).loc Cert.RefGateupIdeal.main_arg0) = m ((c.tc : Thread Cert.GateupIdeal.nD Cert.GateupIdeal.τ).loc Cert.GateupIdeal.main_arg0)
      ∧ m' ((c.tc : Thread Cert.RefGateupIdeal.nD Cert.RefGateupIdeal.τ).loc Cert.RefGateupIdeal.main_arg1) = m ((c.tc : Thread Cert.GateupIdeal.nD Cert.GateupIdeal.τ).loc Cert.GateupIdeal.main_arg1)
      ∧ m' ((c.tc : Thread Cert.RefGateupIdeal.nD Cert.RefGateupIdeal.τ).loc Cert.RefGateupIdeal.main_arg2) = m ((c.tc : Thread Cert.GateupIdeal.nD Cert.GateupIdeal.τ).loc Cert.GateupIdeal.main_arg2)
      ∧ m' ((c.tc : Thread Cert.RefGateupIdeal.nD Cert.RefGateupIdeal.τ).loc Cert.RefGateupIdeal.main_arg3) = m ((c.tc : Thread Cert.GateupIdeal.nD Cert.GateupIdeal.τ).loc Cert.GateupIdeal.main_arg3)) →
    ∃ (v0 : (c : Dev Cert.GateupIdeal.nD) → Buf (Elt Ideal) ((c.tc : Thread Cert.GateupIdeal.nD Cert.GateupIdeal.τ).loc Cert.GateupIdeal.main_v1_0)) (v1 : (c : Dev Cert.GateupIdeal.nD) → Buf (Elt Ideal) ((c.tc : Thread Cert.GateupIdeal.nD Cert.GateupIdeal.τ).loc Cert.GateupIdeal.main_v1_1)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v1_0) = v0 c
          ∧ r.2.mem ((c.tc : Thread Cert.GateupIdeal.nD Cert.GateupIdeal.τ).loc Cert.GateupIdeal.main_v1_1) = v1 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
          ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3))
      ∧ θ_run (Cert.RefGateupIdeal.defs (F := Ideal)) (onTc (τ := Cert.RefGateupIdeal.τ) (Cert.RefGateupIdeal.main (F := Ideal))) ⟨m', fun _ => 0, g'⟩ (fun r => ∀ c : Dev Cert.RefGateupIdeal.nD,
          r.2.mem ((c.tc : Thread Cert.RefGateupIdeal.nD Cert.RefGateupIdeal.τ).loc Cert.RefGateupIdeal.main_v1_0) = v0 c
          ∧ r.2.mem ((c.tc : Thread Cert.RefGateupIdeal.nD Cert.RefGateupIdeal.τ).loc Cert.RefGateupIdeal.main_v1_1) = v1 c
          ∧ r.2.mem ((c.tc : Thread Cert.RefGateupIdeal.nD Cert.RefGateupIdeal.τ).loc Cert.RefGateupIdeal.main_arg0) = m' ((c.tc : Thread Cert.RefGateupIdeal.nD Cert.RefGateupIdeal.τ).loc Cert.RefGateupIdeal.main_arg0)
          ∧ r.2.mem ((c.tc : Thread Cert.RefGateupIdeal.nD Cert.RefGateupIdeal.τ).loc Cert.RefGateupIdeal.main_arg1) = m' ((c.tc : Thread Cert.RefGateupIdeal.nD Cert.RefGateupIdeal.τ).loc Cert.RefGateupIdeal.main_arg1)
          ∧ r.2.mem ((c.tc : Thread Cert.RefGateupIdeal.nD Cert.RefGateupIdeal.τ).loc Cert.RefGateupIdeal.main_arg2) = m' ((c.tc : Thread Cert.RefGateupIdeal.nD Cert.RefGateupIdeal.τ).loc Cert.RefGateupIdeal.main_arg2)
          ∧ r.2.mem ((c.tc : Thread Cert.RefGateupIdeal.nD Cert.RefGateupIdeal.τ).loc Cert.RefGateupIdeal.main_arg3) = m' ((c.tc : Thread Cert.RefGateupIdeal.nD Cert.RefGateupIdeal.τ).loc Cert.RefGateupIdeal.main_arg3))

def Claim : Prop :=
  ∃ (hKernel : Cert.Kernel.Facts) (hKernelIdeal : Cert.KernelIdeal.Facts) (hReferenceIdeal : Cert.ReferenceIdeal.Facts) (hGateup : Cert.Gateup.Facts) (hGateupIdeal : Cert.GateupIdeal.Facts) (hRefGateupIdeal : Cert.RefGateupIdeal.Facts),
    quiescent_Kernel (hKernel := hKernel)
    ∧ quiescent_KernelIdeal (hKernelIdeal := hKernelIdeal)
    ∧ quiescent_ReferenceIdeal (hReferenceIdeal := hReferenceIdeal)
    ∧ quiescent_Gateup (hGateup := hGateup)
    ∧ quiescent_GateupIdeal (hGateupIdeal := hGateupIdeal)
    ∧ quiescent_RefGateupIdeal (hRefGateupIdeal := hRefGateupIdeal)
    ∧ preserves_Kernel_KernelIdeal
    ∧ algebraic_KernelIdeal_ReferenceIdeal (hKernelIdeal := hKernelIdeal) (hReferenceIdeal := hReferenceIdeal)
    ∧ preserves_Gateup_GateupIdeal
    ∧ algebraic_GateupIdeal_RefGateupIdeal (hGateupIdeal := hGateupIdeal) (hRefGateupIdeal := hRefGateupIdeal)
-- ==== Kernel.lean ====
abbrev S4x6144x7168 : Shape := ⟨3, ![4, 6144, 7168]⟩
abbrev S7168x10240 : Shape := ⟨2, ![7168, 10240]⟩
abbrev S10240 : Shape := ⟨1, ![10240]⟩
abbrev S24576x7168 : Shape := ⟨2, ![24576, 7168]⟩
abbrev S1x10240 : Shape := ⟨2, ![1, 10240]⟩
abbrev S24576x1 : Shape := ⟨2, ![24576, 1]⟩
abbrev S256x7168 : Shape := ⟨2, ![256, 7168]⟩
abbrev S256x1 : Shape := ⟨2, ![256, 1]⟩
abbrev S256 : Shape := ⟨1, ![256]⟩
abbrev S24576x5120 : Shape := ⟨2, ![24576, 5120]⟩
abbrev S512x7168 : Shape := ⟨2, ![512, 7168]⟩
abbrev S512x1 : Shape := ⟨2, ![512, 1]⟩
abbrev S7168x512 : Shape := ⟨2, ![7168, 512]⟩
abbrev S1x512 : Shape := ⟨2, ![1, 512]⟩
abbrev S512x5120 : Shape := ⟨2, ![512, 5120]⟩
abbrev S10x512x512 : Shape := ⟨3, ![10, 512, 512]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩

abbrev nBuf : Space → Nat
  | .hbm => 9
  | .vmem => 24
  | .smem => 0
  | _ => 0

abbrev bufTy : (tb : Table) → Fin (tcTables nBuf tb) → BufTy
  | .hbm, ⟨0, _⟩ => ⟨S4x6144x7168, .bf16⟩
  | .hbm, ⟨1, _⟩ => ⟨S7168x10240, .fp8e4m3⟩
  | .hbm, ⟨2, _⟩ => ⟨S10240, .f32⟩
  | .hbm, ⟨3, _⟩ => ⟨S24576x7168, .bf16⟩
  | .hbm, ⟨4, _⟩ => ⟨S1x10240, .f32⟩
  | .hbm, ⟨5, _⟩ => ⟨S24576x7168, .fp8e4m3⟩
  | .hbm, ⟨6, _⟩ => ⟨S24576x1, .f32⟩
  | .hbm, ⟨7, _⟩ => ⟨S24576x5120, .fp8e4m3⟩
  | .hbm, ⟨8, _⟩ => ⟨S24576x1, .f32⟩
  | .local _ .vmem, ⟨0, _⟩ => ⟨S256x7168, .bf16⟩
  | .local _ .vmem, ⟨1, _⟩ => ⟨S256x7168, .bf16⟩
  | .local _ .vmem, ⟨2, _⟩ => ⟨S256x7168, .fp8e4m3⟩
  | .local _ .vmem, ⟨3, _⟩ => ⟨S256x7168, .fp8e4m3⟩
  | .local _ .vmem, ⟨4, _⟩ => ⟨S256x1, .f32⟩
  | .local _ .vmem, ⟨5, _⟩ => ⟨S256x1, .f32⟩
  | .local _ .vmem, ⟨6, _⟩ => ⟨S512x7168, .fp8e4m3⟩
  | .local _ .vmem, ⟨7, _⟩ => ⟨S512x7168, .fp8e4m3⟩
  | .local _ .vmem, ⟨8, _⟩ => ⟨S512x1, .f32⟩
  | .local _ .vmem, ⟨9, _⟩ => ⟨S512x1, .f32⟩
  | .local _ .vmem, ⟨10, _⟩ => ⟨S7168x512, .fp8e4m3⟩
  | .local _ .vmem, ⟨11, _⟩ => ⟨S7168x512, .fp8e4m3⟩
  | .local _ .vmem, ⟨12, _⟩ => ⟨S7168x512, .fp8e4m3⟩
  | .local _ .vmem, ⟨13, _⟩ => ⟨S7168x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x5120, .fp8e4m3⟩
  | .local _ .vmem, ⟨19, _⟩ => ⟨S512x5120, .fp8e4m3⟩
  | .local _ .vmem, ⟨20, _⟩ => ⟨S512x1, .f32⟩
  | .local _ .vmem, ⟨21, _⟩ => ⟨S512x1, .f32⟩
  | .local _ .vmem, ⟨22, _⟩ => ⟨S10x512x512, .f32⟩
  | .local _ .vmem, ⟨23, _⟩ => ⟨S512x128, .f32⟩
  | _, _ => ⟨S4x6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![48, 10], ![false, false]⟩

def k1_off1 (i : grid1.Coords) : Fin 3 → Nat :=
  let arg1 : BitVec 32 := BitVec.ofNat 32 (i 1).val
  let v23 : Index := Scalar.indexCast arg1
  let c0_12 : Index := 0#32
  let c0_13 : Index := 0#32
  ![v23.toNat, 0, 0]
def k1_cond3 (i : grid1.Coords) : BitVec 1 :=
  let arg1 : BitVec 32 := BitVec.ofNat 32 (i 1).val
  let c9_i32 : BitVec 32 := 9#32
  let v44 : BitVec 1 := Scalar.cmpi .eq arg1 c9_i32
  let v45 : BitVec 32 := Scalar.extui v44
  let c0_i32_17 : BitVec 32 := 0#32
  let v46 : BitVec 1 := Scalar.cmpi .ne v45 c0_i32_17
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S7168x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S7168x512 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x5120 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S4x6144x7168 : Shape := ⟨3, ![4, 6144, 7168]⟩
abbrev S7168x10240 : Shape := ⟨2, ![7168, 10240]⟩
abbrev S10240 : Shape := ⟨1, ![10240]⟩
abbrev S24576x7168 : Shape := ⟨2, ![24576, 7168]⟩
abbrev S1x10240 : Shape := ⟨2, ![1, 10240]⟩
abbrev S24576x1 : Shape := ⟨2, ![24576, 1]⟩
abbrev S24576x5120 : Shape := ⟨2, ![24576, 5120]⟩
abbrev S24576 : Shape := ⟨1, ![24576]⟩
abbrev S24576x10240 : Shape := ⟨2, ![24576, 10240]⟩

abbrev nBuf : Space → Nat
  | .hbm => 9
  | .vmem => 7
  | .smem => 0
  | _ => 0

abbrev bufTy : (tb : Table) → Fin (tcTables nBuf tb) → BufTy
  | .hbm, ⟨0, _⟩ => ⟨S4x6144x7168, .bf16⟩
  | .hbm, ⟨1, _⟩ => ⟨S7168x10240, .fp8e4m3⟩
  | .hbm, ⟨2, _⟩ => ⟨S10240, .f32⟩
  | .hbm, ⟨3, _⟩ => ⟨S24576x7168, .bf16⟩
  | .hbm, ⟨4, _⟩ => ⟨S1x10240, .f32⟩
  | .hbm, ⟨5, _⟩ => ⟨S24576x1, .f32⟩
  | .hbm, ⟨6, _⟩ => ⟨S24576x5120, .fp8e4m3⟩
  | .hbm, ⟨7, _⟩ => ⟨S24576x7168, .fp8e4m3⟩
  | .hbm, ⟨8, _⟩ => ⟨S24576x1, .f32⟩
  | .local _ .vmem, ⟨0, _⟩ => ⟨S24576x7168, .bf16⟩
  | .local _ .vmem, ⟨1, _⟩ => ⟨S7168x10240, .fp8e4m3⟩
  | .local _ .vmem, ⟨2, _⟩ => ⟨S1x10240, .f32⟩
  | .local _ .vmem, ⟨3, _⟩ => ⟨S24576x1, .f32⟩
  | .local _ .vmem, ⟨4, _⟩ => ⟨S24576x5120, .fp8e4m3⟩
  | .local _ .vmem, ⟨5, _⟩ => ⟨S24576x7168, .fp8e4m3⟩
  | .local _ .vmem, ⟨6, _⟩ => ⟨S24576x1, .f32⟩
  | _, _ => ⟨S4x6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Gateup.lean ====
abbrev S24576x7168 : Shape := ⟨2, ![24576, 7168]⟩
abbrev S24576x1 : Shape := ⟨2, ![24576, 1]⟩
abbrev S7168x10240 : Shape := ⟨2, ![7168, 10240]⟩
abbrev S10240 : Shape := ⟨1, ![10240]⟩
abbrev S1x10240 : Shape := ⟨2, ![1, 10240]⟩
abbrev S24576x5120 : Shape := ⟨2, ![24576, 5120]⟩
abbrev S512x7168 : Shape := ⟨2, ![512, 7168]⟩
abbrev S512x1 : Shape := ⟨2, ![512, 1]⟩
abbrev S7168x512 : Shape := ⟨2, ![7168, 512]⟩
abbrev S1x512 : Shape := ⟨2, ![1, 512]⟩
abbrev S512x5120 : Shape := ⟨2, ![512, 5120]⟩
abbrev S10x512x512 : Shape := ⟨3, ![10, 512, 512]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩

abbrev nBuf : Space → Nat
  | .hbm => 7
  | .vmem => 18
  | .smem => 0
  | _ => 0

abbrev bufTy : (tb : Table) → Fin (tcTables nBuf tb) → BufTy
  | .hbm, ⟨0, _⟩ => ⟨S24576x7168, .fp8e4m3⟩
  | .hbm, ⟨1, _⟩ => ⟨S24576x1, .f32⟩
  | .hbm, ⟨2, _⟩ => ⟨S7168x10240, .fp8e4m3⟩
  | .hbm, ⟨3, _⟩ => ⟨S10240, .f32⟩
  | .hbm, ⟨4, _⟩ => ⟨S1x10240, .f32⟩
  | .hbm, ⟨5, _⟩ => ⟨S24576x5120, .fp8e4m3⟩
  | .hbm, ⟨6, _⟩ => ⟨S24576x1, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x1, .f32⟩
  | .local _ .vmem, ⟨3, _⟩ => ⟨S512x1, .f32⟩
  | .local _ .vmem, ⟨4, _⟩ => ⟨S7168x512, .fp8e4m3⟩
  | .local _ .vmem, ⟨5, _⟩ => ⟨S7168x512, .fp8e4m3⟩
  | .local _ .vmem, ⟨6, _⟩ => ⟨S7168x512, .fp8e4m3⟩
  | .local _ .vmem, ⟨7, _⟩ => ⟨S7168x512, .fp8e4m3⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x5120, .fp8e4m3⟩
  | .local _ .vmem, ⟨13, _⟩ => ⟨S512x5120, .fp8e4m3⟩
  | .local _ .vmem, ⟨14, _⟩ => ⟨S512x1, .f32⟩
  | .local _ .vmem, ⟨15, _⟩ => ⟨S512x1, .f32⟩
  | .local _ .vmem, ⟨16, _⟩ => ⟨S10x512x512, .f32⟩
  | .local _ .vmem, ⟨17, _⟩ => ⟨S512x128, .f32⟩
  | _, _ => ⟨S24576x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![48, 10], ![false, false]⟩

def k0_off1 (i : grid0.Coords) : Fin 3 → Nat :=
  let arg1 : BitVec 32 := BitVec.ofNat 32 (i 1).val
  let v21 : Index := Scalar.indexCast arg1
  let c0_12 : Index := 0#32
  let c0_13 : Index := 0#32
  ![v21.toNat, 0, 0]
def k0_cond3 (i : grid0.Coords) : BitVec 1 :=
  let arg1 : BitVec 32 := BitVec.ofNat 32 (i 1).val
  let c9_i32 : BitVec 32 := 9#32
  let v42 : BitVec 1 := Scalar.cmpi .eq arg1 c9_i32
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S7168x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RefGateupIdeal.lean ====
abbrev S24576x7168 : Shape := ⟨2, ![24576, 7168]⟩
abbrev S24576x1 : Shape := ⟨2, ![24576, 1]⟩
abbrev S7168x10240 : Shape := ⟨2, ![7168, 10240]⟩
abbrev S10240 : Shape := ⟨1, ![10240]⟩
abbrev S1x10240 : Shape := ⟨2, ![1, 10240]⟩
abbrev S24576x5120 : Shape := ⟨2, ![24576, 5120]⟩
abbrev S24576x10240 : Shape := ⟨2, ![24576, 10240]⟩
abbrev S24576 : Shape := ⟨1, ![24576]⟩

abbrev nBuf : Space → Nat
  | .hbm => 7
  | .vmem => 6
  | .smem => 0
  | _ => 0

abbrev bufTy : (tb : Table) → Fin (tcTables nBuf tb) → BufTy
  | .hbm, ⟨0, _⟩ => ⟨S24576x7168, .fp8e4m3⟩
  | .hbm, ⟨1, _⟩ => ⟨S24576x1, .f32⟩
  | .hbm, ⟨2, _⟩ => ⟨S7168x10240, .fp8e4m3⟩
  | .hbm, ⟨3, _⟩ => ⟨S10240, .f32⟩
  | .hbm, ⟨4, _⟩ => ⟨S1x10240, .f32⟩
  | .hbm, ⟨5, _⟩ => ⟨S24576x5120, .fp8e4m3⟩
  | .hbm, ⟨6, _⟩ => ⟨S24576x1, .f32⟩
  | .local _ .vmem, ⟨0, _⟩ => ⟨S24576x7168, .fp8e4m3⟩
  | .local _ .vmem, ⟨1, _⟩ => ⟨S24576x1, .f32⟩
  | .local _ .vmem, ⟨2, _⟩ => ⟨S7168x10240, .fp8e4m3⟩
  | .local _ .vmem, ⟨3, _⟩ => ⟨S1x10240, .f32⟩
  | .local _ .vmem, ⟨4, _⟩ => ⟨S24576x5120, .fp8e4m3⟩
  | .local _ .vmem, ⟨5, _⟩ => ⟨S24576x1, .f32⟩
  | _, _ => ⟨S24576x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.QuantiseRegion.lean ====
/-
The first call of the kernel, which quantises the rows: the block each window reads or writes at a grid point, what the body
leaves there, and the proof that it does. Everything is stated at the buffers' contents `V` when the call is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run instantiates per region
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay32` …, after `k0_pay31`), so that
    `out0_W` and the values after it name it instead of spelling it out; the comment after each is the printed function's
    name for the value (a count appended where that name is bound again). -/

def k0_pay32 (x0 : Vec F S256x7168 .bf16) : FVec F S256x1 .f32 :=
  k0_pay5 (View.ld x0 r0_0) -- `v5`
def k0_pay33 (x0 : Vec F S256x7168 .bf16) : FVec F S256x1 .f32 :=
  k0_pay14 (View.ld x0 r0_0) -- `v37`
def k0_pay34 (x0 : Vec F S256x7168 .bf16) : IVec S256x1 1 :=
  k0_pay29 (k0_pay6 (View.ld x0 r0_0)) -- `v122`
def k0_pay35 (x0 : Vec F S256x7168 .bf16) : IVec S256x1 32 :=
  k0_pay30 (k0_pay25 (k0_pay33 x0) (Scalar.ofBits .f32 0x41800000#32)) (k0_pay26 (k0_pay33 x0) (k0_pay15 (View.ld x0 r0_0)) (Scalar.ofBits .f32 0x41800000#32)) (k0_pay27 (k0_pay33 x0) (Scalar.ofBits .f32 0x41800000#32)) (k0_pay28 (k0_pay33 x0) (Scalar.ofBits .f32 0x41800000#32)) -- `v126`
def k0_pay36 (x0 : Vec F S256x7168 .bf16) : IVec S256x1 32 :=
  k0_pay31 -- `v127`

/-- Window 1's staging buffer after the body, from the input windows' blocks: its 1 store as pieces, LAST
    FIRST (Lib/Pipeline/FrameBody.lean `View.canon`; the payloads are the skeleton's and the values stated above). -/
def out0_1 (x0 : Vec F S256x7168 .bf16) : Vec F S256x7168 .fp8e4m3 :=
  View.canon [⟨r0_0, k0_pay3 (k0_pay4 (View.ld x0 r0_0)) (k0_pay32 x0) (k0_pay34 x0) (k0_pay35 x0) (k0_pay36 x0)⟩]

/-- Its stores tile the buffer (checked by evaluation), so they cover it. -/
theorem cover0_1 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

/-- Window 2's staging buffer after the body, from the input windows' blocks: its 1 store as pieces, LAST
    FIRST (Lib/Pipeline/FrameBody.lean `View.canon`; the payloads are the skeleton's and the values stated above). -/
def out0_2 (x0 : Vec F S256x7168 .bf16) : Vec F S256x1 .f32 :=
  View.canon [⟨r0_1, k0_pay2 (k0_pay32 x0) (k0_pay34 x0) (k0_pay35 x0) (k0_pay36 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (i : grid0.Coords) (arg1 : Memref sig .tc .vmem S256x7168 .bf16) (harg1 : arg1.IsWhole) (arg2 : Memref sig .tc .vmem S256x7168 .fp8e4m3) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton, k0_part2_eq_skeleton, k0_part3_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.GateupCases.lean ====
/-
The three kinds of grid point of the second call (gate/up) (first, middle and last column step of a row block), which
outputs are idle at each, and the names of the staging and scratch buffers.
-/
module

public import proofs.«01_k».proof.Proof.QuantiseRegion
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 10) — by arithmetic of the point. -/
theorem hcond1_0 : ∀ t : Fin cfg1.N, cond1_0 (grid1.coords t) ↔ t.val % 10 = 0 :=
  (fun t => by
    have ht : t.val < 480 := Nat.lt_of_lt_of_eq t.isLt N_1
    have e0 : (grid1.coords t 0).val = t.val / 10 % 48 := Pipeline.Grid.coords_val t 0 (by decide) rfl
    have e1 : (grid1.coords t 1).val = t.val / 1 % 10 := Pipeline.Grid.coords_val t 1 (by decide) rfl
    simp only [cond1_0, e0, e1]
    word_cmp
   : ∀ t : Fin grid1.N, cond1_0 (grid1.coords t) ↔ t.val % 10 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond1_1 : ∀ t : Fin cfg1.N, cond1_1 (grid1.coords t) ↔ 1 ≤ t.val % 10 :=
  (by decide +kernel : ∀ t : Fin grid1.N, cond1_1 (grid1.coords t) ↔ 1 ≤ t.val % 10)

/-- The condition of the body's `scf.if` 2 (`k1_h3`), from the grid coordinates (the skeleton's scalar
    chain substituted). -/
abbrev cond1_2 (i : grid1.Coords) : Prop := k1_cond3 i = 1#1
/-- It holds at the points ≡ 9 (mod 10) — by arithmetic of the point. -/
theorem hcond1_2 : ∀ t : Fin cfg1.N, cond1_2 (grid1.coords t) ↔ t.val % 10 = 9 :=
  (fun t => by
    have ht : t.val < 480 := Nat.lt_of_lt_of_eq t.isLt N_1
    have e0 : (grid1.coords t 0).val = t.val / 10 % 48 := Pipeline.Grid.coords_val t 0 (by decide) rfl
    have e1 : (grid1.coords t 1).val = t.val / 1 % 10 := Pipeline.Grid.coords_val t 1 (by decide) rfl
    simp only [cond1_2, k1_cond3, e0, e1]
    word_cmp
   : ∀ t : Fin grid1.N, cond1_2 (grid1.coords t) ↔ t.val % 10 = 9)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- At the points of case A the printed configuration (`Cfg.idle`) calls output 6 idle: the case stores nothing into it. -/
theorem idleAt1_6_A : ∀ t : Fin cfg1.N, cond1_0 (grid1.coords t) → ¬cond1_1 (grid1.coords t) → ¬cond1_2 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → ¬cond1_2 (grid1.coords t) → (cfg1.win 6).flush t = false := by decide +kernel
/-- At the points of case B the printed configuration (`Cfg.idle`) calls output 6 idle: the case stores nothing into it. -/
theorem idleAt1_6_B : ∀ t : Fin cfg1.N, ¬cond1_0 (grid1.coords t) → cond1_1 (grid1.coords t) → ¬cond1_2 (grid1.coords t) → cfg1.idle 6 (grid1.coords t) = true := by decide +kernel
/-- At the points of case B the pipeline does not write output 6's block back. -/
theorem noFlush1_6_B : ∀ t : Fin cfg1.N, ¬cond1_0 (grid1.coords t) → cond1_1 (grid1.coords t) → ¬cond1_2 (grid1.coords t) → (cfg1.win 6).flush t = false := by decide +kernel
/-- At the points of case C the printed configuration (`Cfg.idle`) calls output 6 live: the case stores into it. -/
theorem liveAt1_6_C : ∀ t : Fin cfg1.N, ¬cond1_0 (grid1.coords t) → cond1_1 (grid1.coords t) → cond1_2 (grid1.coords t) → cfg1.idle 6 (grid1.coords t) = false := by decide +kernel
/-- At the points of case A the printed configuration (`Cfg.idle`) calls output 7 idle: the case stores nothing into it. -/
theorem idleAt1_7_A : ∀ t : Fin cfg1.N, cond1_0 (grid1.coords t) → ¬cond1_1 (grid1.coords t) → ¬cond1_2 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → ¬cond1_2 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → cond1_1 (grid1.coords t) → ¬cond1_2 (grid1.coords t) → cfg1.idle 7 (grid1.coords t) = true := by decide +kernel
/-- At the points of case B the pipeline does not write output 7's block back. -/
theorem noFlush1_7_B : ∀ t : Fin cfg1.N, ¬cond1_0 (grid1.coords t) → cond1_1 (grid1.coords t) → ¬cond1_2 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cond1_2 (grid1.coords t) → cfg1.idle 7 (grid1.coords t) = false := by decide +kernel

/-! ## The kernel body on any staging memrefs: a subtype the run finds -/

/-- One staging buffer of output window 6, through which its contents are stated (`View.read_writes_of_cover`: the
    choice does not matter). -/
abbrev VO1_6 : View sig .tc .vmem S512x5120 .fp8e4m3 := (Memref.whole cc1_stg6_0 : Memref sig .tc .vmem S512x5120 .fp8e4m3).view
/-- One staging buffer of output window 7, through which its contents are stated (`View.read_writes_of_cover`: the
    choice does not matter). -/
abbrev VO1_7 : View sig .tc .vmem S512x1 .f32 := (Memref.whole cc1_stg7_0 : Memref sig .tc .vmem S512x1 .f32).view
/-- Each window's current staging memref at point `t`, spelled as the pipeline passes it (`bodyAt1`), and its wholeness. -/
abbrev ms1_0 (t : Fin cfg1.N) : Memref sig .tc .vmem S512x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7168x512 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x5120 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S10x512x512 .f32 := Memref.whole cc1_scratch0
abbrev scM1_1 : Memref sig .tc .vmem S512x128 .f32 := Memref.whole cc1_scratch1
/-- The scratch `arg10` the kernel carries between points, as a view: what it holds is stated through it. -/
abbrev VS1_0 : View sig .tc .vmem S10x512x512 .f32 := scM1_0.view
/-- The scratch `arg11` the kernel carries between points, as a view: what it holds is stated through it. -/
abbrev VS1_1 : View sig .tc .vmem S512x128 .f32 := scM1_1.view

/-- The six staging buffers of the first call, which the second call leaves alone, each at some contents. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the second call's body leaves alone: those buffers and the generator register. -/
def Rest (c : Dev nD) : sProp 𝕄 := iprop(Others c ∗ ∃ r, prngReg c r)

/-- The invariant a call's frame gives and takes back, with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.GateupRunA.lean ====
/-
One run of the body of the second call (gate/up), on any whole buffers: first column step of a row block: the tile and its lane maxima are stored.
-/
module

public import proofs.«01_k».proof.Proof.GateupCases

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body leaves in each buffer it stores into, as a list of stored pieces (newest first), at the
    first column step of a row block: the tile and its lane maxima are stored; with the proof that the body, run on whole buffers, leaves exactly these pieces. -/
noncomputable def kernelRun1_A (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : cond1_0 i) (hc1 : ¬cond1_1 i) (hc2 : ¬cond1_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) :
    Σ' (L6 : List (View.Piece (Elt F) S512x5120 .fp8e4m3)), Σ' (L7 : List (View.Piece (Elt F) S512x1 .f32)), Σ' (LS0 : List (View.Piece (Elt F) S10x512x512 .f32)), { LS1 : List (View.Piece (Elt F) S512x128 .f32) //
      ∀ (xi6 : Vec F S512x5120 .fp8e4m3) (xi7 : Vec F S512x1 .f32) (xs0 : Vec F S10x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc1_gateup i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc1_gateup_eq_skeleton]; unfold cc1_gateup_skel
    simp only [k1_part7_eq_skeleton, k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.KernelIdeal.Hand

end
-- ==== Proof.GateupRunB.lean ====
/-
One run of the body of the second call (gate/up), on any whole buffers: middle column step: the tile is stored, the lane maxima are folded in.
-/
module

public import proofs.«01_k».proof.Proof.GateupRunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body leaves in each buffer it stores into, as a list of stored pieces (newest first), at the
    middle column step: the tile is stored, the lane maxima are folded in; with the proof that the body, run on whole buffers, leaves exactly these pieces. -/
noncomputable def kernelRun1_B (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : ¬cond1_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    Σ' (L6 : List (View.Piece (Elt F) S512x5120 .fp8e4m3)), Σ' (L7 : List (View.Piece (Elt F) S512x1 .f32)), Σ' (LS0 : List (View.Piece (Elt F) S10x512x512 .f32)), { LS1 : List (View.Piece (Elt F) S512x128 .f32) //
      ∀ (xi6 : Vec F S512x5120 .fp8e4m3) (xi7 : Vec F S512x1 .f32) (xs0 : Vec F S10x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc1_gateup i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc1_gateup_eq_skeleton]; unfold cc1_gateup_skel
    simp only [k1_part7_eq_skeleton, k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.KernelIdeal.Hand

end
-- ==== Proof.GateupRunC.lean ====
/-
One run of the body of the second call (gate/up), on any whole buffers: last column step: as in the middle, then the scale and the ten code pieces are stored.
-/
module

public import proofs.«01_k».proof.Proof.GateupRunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body leaves in each buffer it stores into, as a list of stored pieces (newest first), at the
    last column step: as in the middle, then the scale and the ten code pieces are stored; with the proof that the body, run on whole buffers, leaves exactly these pieces. -/
noncomputable def kernelRun1_C (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : cond1_2 i) (hl0 : k1_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    Σ' (L6 : List (View.Piece (Elt F) S512x5120 .fp8e4m3)), Σ' (L7 : List (View.Piece (Elt F) S512x1 .f32)), Σ' (LS0 : List (View.Piece (Elt F) S10x512x512 .f32)), { LS1 : List (View.Piece (Elt F) S512x128 .f32) //
      ∀ (xs0 : Vec F S10x512x512 .f32) (hps0_0 : View.readAt (Elt F) arg10.view (Rect.unit (s := S10x512x512) ![0, 0, 0] S1x512x512.size inb_S10x512x512_S1x512x512_0_0_0).toLoadRect (harg10.unread xs0) = ps0_0) (hps0_1 : View.readAt (Elt F) arg10.view (Rect.unit (s := S10x512x512) ![1, 0, 0] S1x512x512.size inb_S10x512x512_S1x512x512_1_0_0).toLoadRect (harg10.unread xs0) = ps0_1) (hps0_2 : View.readAt (Elt F) arg10.view (Rect.unit (s := S10x512x512) ![2, 0, 0] S1x512x512.size inb_S10x512x512_S1x512x512_2_0_0).toLoadRect (harg10.unread xs0) = ps0_2) (hps0_3 : View.readAt (Elt F) arg10.view (Rect.unit (s := S10x512x512) ![3, 0, 0] S1x512x512.size inb_S10x512x512_S1x512x512_3_0_0).toLoadRect (harg10.unread xs0) = ps0_3) (hps0_4 : View.readAt (Elt F) arg10.view (Rect.unit (s := S10x512x512) ![4, 0, 0] S1x512x512.size inb_S10x512x512_S1x512x512_4_0_0).toLoadRect (harg10.unread xs0) = ps0_4) (hps0_5 : View.readAt (Elt F) arg10.view (Rect.unit (s := S10x512x512) ![5, 0, 0] S1x512x512.size inb_S10x512x512_S1x512x512_5_0_0).toLoadRect (harg10.unread xs0) = ps0_5) (hps0_6 : View.readAt (Elt F) arg10.view (Rect.unit (s := S10x512x512) ![6, 0, 0] S1x512x512.size inb_S10x512x512_S1x512x512_6_0_0).toLoadRect (harg10.unread xs0) = ps0_6) (hps0_7 : View.readAt (Elt F) arg10.view (Rect.unit (s := S10x512x512) ![7, 0, 0] S1x512x512.size inb_S10x512x512_S1x512x512_7_0_0).toLoadRect (harg10.unread xs0) = ps0_7) (hps0_8 : View.readAt (Elt F) arg10.view (Rect.unit (s := S10x512x512) ![8, 0, 0] S1x512x512.size inb_S10x512x512_S1x512x512_8_0_0).toLoadRect (harg10.unread xs0) = ps0_8) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc1_gateup i arg2 harg2 arg3 harg3 arg4 harg4 arg5 harg5 arg6 harg6 arg7 harg7 arg8 harg8 arg9 harg9 arg10 harg10 arg11 harg11) K } := by
  refine ⟨?_, ?_, ?_, ?_, fun xs0 hps0_0 hps0_1 hps0_2 hps0_3 hps0_4 hps0_5 hps0_6 hps0_7 hps0_8 E K => ?run⟩
  case run =>
    letI : ClosedOff (k1_off1 i) := ⟨![9, 0, 0], hl0⟩
    simp only [cc1_gateup_eq_skeleton]; unfold cc1_gateup_skel
    simp only [k1_part7_eq_skeleton, k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    iexists _; iexact HS1

end Cert.KernelIdeal.Hand

end
-- ==== Proof.GateupPieces.lean ====
/-
The lists of pieces that a run of the body of the second call (gate/up) stores, in closed form: the tile of `h`, the running
lane maxima, and at the last column step the scale and the ten pieces of codes as functions of the lane maxima and
of the ten stored tiles.
-/
module

public import Idealize.ShloMosaic.Lib.VecWindow
public import proofs.«01_k».proof.Proof.GateupRunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A read of a rectangle just stored, the two rectangles written with equal offsets, gives the stored value. -/
theorem readCov_of_off_eq {κ : Kind} {sp : Space} {s : Shape} {e : EltTy} (v : View sig κ sp s e) {off off' size : Fin s.rank → ℕ}
    (h : off = off') (inb : ∀ a, off a + size a ≤ s.size a) (inb' : ∀ a, off' a + size a ≤ s.size a)
    (w : (Rect.unit off size inb).shape.Idx → Elt F e) (L : List (View.Piece (Elt F) s e)) :
    v.readCov (⟨Rect.unit off size inb, w⟩ :: L) (Rect.unit off' size inb').toLoadRect = w := by
  subst h
  exact View.readCov_cons_toLoadRect v _ w L

/-- The exponent the last column step derives from the running lane maxima `a` (before it is made zero where the row maximum is zero). -/
def expTerm (a : Vec F S512x128 .f32) : Vec F S512x1 .i32 :=
  k1_pay31 (k1_pay6 a) (k1_pay27 (k1_pay14 a) (k1_pay15 a) (k1_pay16 a) k1_pay17)
    (k1_pay28 (k1_pay14 a) (k1_pay16 a) k1_pay17) (k1_pay29 (k1_pay14 a) (k1_pay16 a) k1_pay17)
    (k1_pay30 (k1_pay14 a) (k1_pay15 a) (k1_pay16 a) k1_pay17)

/-- The scale of a row block, from its lane maxima. -/
def scaleBlk (a : Vec F S512x128 .f32) : Vec F S512x1 .f32 := k1_pay34 (expTerm a) (k1_pay32 (k1_pay5 a))

/-- The reciprocal of the scale of a row block, from its lane maxima. -/
def invBlk (a : Vec F S512x128 .f32) : Vec F S512x1 .f32 := k1_pay35 (expTerm a) (k1_pay32 (k1_pay5 a))

/-- The ten pieces of codes of a row block, from its lane maxima and its ten tiles of `h`. -/
def codesL (a : Vec F S512x128 .f32) (p0 p1 p2 p3 p4 p5 p6 p7 p8 p9 : Vec F S1x512x512 .f32) :
    List (View.Piece (Elt F) S512x5120 .fp8e4m3) :=
  [⟨Rect.unit (s := S512x5120) ![0, 4608] ![512, 512] inb_S512x5120_S512x512_0_4608, k1_pay4 (invBlk a) p9⟩,
    ⟨Rect.unit (s := S512x5120) ![0, 4096] ![512, 512] inb_S512x5120_S512x512_0_4096, k1_pay3 (k1_pay46 (invBlk a) p8) k1_pay47⟩,
    ⟨Rect.unit (s := S512x5120) ![0, 3584] ![512, 512] inb_S512x5120_S512x512_0_3584, k1_pay45 (invBlk a) p7⟩,
    ⟨Rect.unit (s := S512x5120) ![0, 3072] ![512, 512] inb_S512x5120_S512x512_0_3072, k1_pay44 (invBlk a) p6⟩,
    ⟨Rect.unit (s := S512x5120) ![0, 2560] ![512, 512] inb_S512x5120_S512x512_0_2560, k1_pay43 (k1_pay41 p5) (k1_pay42 (invBlk a))⟩,
    ⟨Rect.unit (s := S512x5120) ![0, 2048] ![512, 512] inb_S512x5120_S512x512_0_2048, k1_pay40 (invBlk a) p4⟩,
    ⟨Rect.unit (s := S512x5120) ![0, 1536] ![512, 512] inb_S512x5120_S512x512_0_1536, k1_pay39 (invBlk a) p3⟩,
    ⟨Rect.unit (s := S512x5120) ![0, 1024] ![512, 512] inb_S512x5120_S512x512_0_1024, k1_pay38 (invBlk a) p2⟩,
    ⟨Rect.unit (s := S512x5120) ![0, 512] ![512, 512] inb_S512x5120_S512x512_0_512, k1_pay37 (expTerm a) (k1_pay32 (k1_pay5 a)) p1⟩,
    ⟨Rect.unit (s := S512x5120) ![0, 0] ![512, 512] inb_S512x5120_S512x512_0_0, k1_pay36 (expTerm a) (k1_pay32 (k1_pay5 a)) p0⟩]

/-- The block of codes of a row block, from its lane maxima and its ten tiles of `h`. -/
def codesBlk (a : Vec F S512x128 .f32) (p0 p1 p2 p3 p4 p5 p6 p7 p8 p9 : Vec F S1x512x512 .f32) : Vec F S512x5120 .fp8e4m3 :=
  View.canon (codesL a p0 p1 p2 p3 p4 p5 p6 p7 p8 p9)

/-- The lane maxima of the tile computed from the six blocks. -/
abbrev laneMax (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) : Vec F S512x128 .f32 :=
  k1_pay50 x0 x1 x2 x3 x4 x5

/-- The tile stored into the scratch of `h` tiles. -/
theorem piecesA_h (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : cond1_0 i) (hc1 : ¬cond1_1 i) (hc2 : ¬cond1_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) :
    (kernelRun1_A c i arg2 harg2 arg3 harg3 arg4 harg4 arg5 harg5 arg6 harg6 arg7 harg7 arg8 harg8 arg9 harg9 arg10 harg10 arg11 harg11 hc0 hc1 hc2 x0 x1 x2 x3 x4 x5).2.2.1 = [⟨Rect.unit (s := S10x512x512) (k1_off1 i) ![1, 512, 512] (k1_off1_inb i), k1_pay49 x0 x1 x2 x3 x4 x5⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  unfold kernelRun1_A; dsimp only
  simp only [e2, e3, e4, e5, e6, e7]

/-- The tile stored into the scratch of `h` tiles. -/
theorem piecesB_h (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : ¬cond1_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    (kernelRun1_B c i arg2 harg2 arg3 harg3 arg4 harg4 arg5 harg5 arg6 harg6 arg7 harg7 arg8 harg8 arg9 harg9 arg10 harg10 arg11 harg11 hc0 hc1 hc2 x0 x1 x2 x3 x4 x5 xs1).2.2.1 = [⟨Rect.unit (s := S10x512x512) (k1_off1 i) ![1, 512, 512] (k1_off1_inb i), k1_pay49 x0 x1 x2 x3 x4 x5⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun1_B; dsimp only
  simp only [e2, e3, e4, e5, e6, e7, e11]

/-- The tile stored into the scratch of `h` tiles. -/
theorem piecesC_h (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : cond1_2 i) (hl0 : k1_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    (kernelRun1_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8).2.2.1 = [⟨Rect.unit (s := S10x512x512) (k1_off1 i) ![1, 512, 512] (k1_off1_inb i), k1_pay49 x0 x1 x2 x3 x4 x5⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun1_C; dsimp only
  unfold kernelRun1_C.sl.HS0_1
  simp only [e2, e3, e4, e5, e6, e7, e11]

/-- The lane maxima stored. -/
theorem piecesA_a (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : cond1_0 i) (hc1 : ¬cond1_1 i) (hc2 : ¬cond1_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) :
    (kernelRun1_A c i arg2 harg2 arg3 harg3 arg4 harg4 arg5 harg5 arg6 harg6 arg7 harg7 arg8 harg8 arg9 harg9 arg10 harg10 arg11 harg11 hc0 hc1 hc2 x0 x1 x2 x3 x4 x5).2.2.2.1 = [⟨Rect.unit (s := S512x128) ![0, 0] ![512, 128] inb_S512x128_S512x128_0_0, k1_pay1 (laneMax x0 x1 x2 x3 x4 x5)⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  unfold kernelRun1_A; dsimp only
  unfold kernelRun1_A.sl.r
  simp only [e2, e3, e4, e5, e6, e7]

/-- The lane maxima stored. -/
theorem piecesB_a (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : ¬cond1_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    (kernelRun1_B c i arg2 harg2 arg3 harg3 arg4 harg4 arg5 harg5 arg6 harg6 arg7 harg7 arg8 harg8 arg9 harg9 arg10 harg10 arg11 harg11 hc0 hc1 hc2 x0 x1 x2 x3 x4 x5 xs1).2.2.2.1 = [⟨Rect.unit (s := S512x128) ![0, 0] ![512, 128] inb_S512x128_S512x128_0_0, k1_pay2 (laneMax x0 x1 x2 x3 x4 x5) xs1⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun1_B; dsimp only
  unfold kernelRun1_B.sl.r
  simp only [e2, e3, e4, e5, e6, e7, e11]

/-- The lane maxima stored. -/
theorem piecesC_a (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : cond1_2 i) (hl0 : k1_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    (kernelRun1_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8).2.2.2.1 = [⟨Rect.unit (s := S512x128) ![0, 0] ![512, 128] inb_S512x128_S512x128_0_0, k1_pay2 (laneMax x0 x1 x2 x3 x4 x5) xs1⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun1_C; dsimp only
  unfold kernelRun1_C.sl.HS1_1 kernelRun1_C.sl.r
  simp only [e2, e3, e4, e5, e6, e7, e11]

/-- The lane maxima as read back at the last column step. -/
theorem amax_readC (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : cond1_2 i) (hl0 : k1_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    kernelRun1_C.sl.v47 c arg2 harg2 arg3 harg3 arg4 harg4 arg5 harg5 arg6 harg6 arg7 harg7 arg11 harg11 x0 x1 x2 x3 x4 x5 xs1 = (k1_pay2 (laneMax x0 x1 x2 x3 x4 x5) xs1) := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun1_C.sl.v47 kernelRun1_C.sl.HS1_1 kernelRun1_C.sl.r
  rw [View.readCov_full]
  dsimp only
  simp only [e2, e3, e4, e5, e6, e7, e11]

/-- The last tile as read back at the last column step. -/
theorem tile_readC (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : cond1_2 i) (hl0 : k1_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    kernelRun1_C.sl.v280 c i arg2 harg2 arg3 harg3 arg4 harg4 arg5 harg5 arg6 harg6 arg7 harg7 arg10 x0 x1 x2 x3 x4 x5 = k1_pay49 x0 x1 x2 x3 x4 x5 := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun1_C.sl.v280 kernelRun1_C.sl.HS0_1
  rw [readCov_of_off_eq arg10.view hl0]
  simp only [e2, e3, e4, e5, e6, e7, e11]

/-- The reciprocal of the scale at the last column step. -/
theorem inv_readC (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : cond1_2 i) (hl0 : k1_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    kernelRun1_C.sl.r_12 c arg2 harg2 arg3 harg3 arg4 harg4 arg5 harg5 arg6 harg6 arg7 harg7 arg11 harg11 x0 x1 x2 x3 x4 x5 xs1 = invBlk (k1_pay2 (laneMax x0 x1 x2 x3 x4 x5) xs1) := by
  unfold kernelRun1_C.sl.r_12 kernelRun1_C.sl.r_11 kernelRun1_C.sl.r_10 kernelRun1_C.sl.r_9 kernelRun1_C.sl.r_8 kernelRun1_C.sl.r_7 kernelRun1_C.sl.r_6 kernelRun1_C.sl.r_5 kernelRun1_C.sl.r_4 kernelRun1_C.sl.r_3 kernelRun1_C.sl.r_2 kernelRun1_C.sl.r_1
  rw [amax_readC c i arg2 harg2 arg3 harg3 arg4 harg4 arg5 harg5 arg6 harg6 arg7 harg7 arg8 harg8 arg9 harg9 arg10 harg10 arg11 harg11 hc0 hc1 hc2 hl0 x0 x1 x2 x3 x4 x5 xs1]
  rfl

/-- The scale stored at the last column step. -/
theorem piecesC_7 (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : cond1_2 i) (hl0 : k1_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    (kernelRun1_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8).2.1 = [⟨Rect.unit (s := S512x1) ![0, 0] ![512, 1] inb_S512x1_S512x1_0_0, scaleBlk (k1_pay2 (laneMax x0 x1 x2 x3 x4 x5) xs1)⟩] := by
  unfold kernelRun1_C; dsimp only
  unfold kernelRun1_C.sl.r_11 kernelRun1_C.sl.r_10 kernelRun1_C.sl.r_9 kernelRun1_C.sl.r_8 kernelRun1_C.sl.r_7 kernelRun1_C.sl.r_6 kernelRun1_C.sl.r_5 kernelRun1_C.sl.r_4 kernelRun1_C.sl.r_3 kernelRun1_C.sl.r_2 kernelRun1_C.sl.r_1
  rw [amax_readC c i arg2 harg2 arg3 harg3 arg4 harg4 arg5 harg5 arg6 harg6 arg7 harg7 arg8 harg8 arg9 harg9 arg10 harg10 arg11 harg11 hc0 hc1 hc2 hl0 x0 x1 x2 x3 x4 x5 xs1]
  rfl

/-- The pieces of codes stored at the last column step. -/
theorem piecesC_6 (c : Dev nD) (i : grid1.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond1_0 i) (hc1 : cond1_1 i) (hc2 : cond1_2 i) (hl0 : k1_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    (kernelRun1_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8).1 = codesL (k1_pay2 (laneMax x0 x1 x2 x3 x4 x5) xs1) ps0_0 ps0_1 ps0_2 ps0_3 ps0_4 ps0_5 ps0_6 ps0_7 ps0_8 (k1_pay49 x0 x1 x2 x3 x4 x5) := by
  unfold kernelRun1_C; dsimp only
  unfold kernelRun1_C.sl.r_13 kernelRun1_C.sl.r_14
  rw [tile_readC c i arg2 harg2 arg3 harg3 arg4 harg4 arg5 harg5 arg6 harg6 arg7 harg7 arg8 harg8 arg9 harg9 arg10 harg10 arg11 harg11 hc0 hc1 hc2 hl0 x0 x1 x2 x3 x4 x5 xs1, inv_readC c i arg2 harg2 arg3 harg3 arg4 harg4 arg5 harg5 arg6 harg6 arg7 harg7 arg8 harg8 arg9 harg9 arg10 harg10 arg11 harg11 hc0 hc1 hc2 hl0 x0 x1 x2 x3 x4 x5 xs1]
  unfold kernelRun1_C.sl.r_11 kernelRun1_C.sl.r_10 kernelRun1_C.sl.r_9 kernelRun1_C.sl.r_8 kernelRun1_C.sl.r_7 kernelRun1_C.sl.r_6 kernelRun1_C.sl.r_5 kernelRun1_C.sl.r_4 kernelRun1_C.sl.r_3 kernelRun1_C.sl.r_2 kernelRun1_C.sl.r_1
  rw [amax_readC c i arg2 harg2 arg3 harg3 arg4 harg4 arg5 harg5 arg6 harg6 arg7 harg7 arg8 harg8 arg9 harg9 arg10 harg10 arg11 harg11 hc0 hc1 hc2 hl0 x0 x1 x2 x3 x4 x5 xs1]
  rfl

end Cert.KernelIdeal.Hand

end
-- ==== Proof.GateupFrame.lean ====
/-
What the second call's buffers hold after each grid point, the proof that the body keeps it so, and the frame:
the kernel's run ends, with its arguments unchanged and every counter at zero.
-/
module

public import proofs.«01_k».proof.Proof.GateupPieces
public import proofs.«01_k».proof.Proof.Gen.KernelIdeal.Points
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Grid point number `n` (modulo the number of points, so that it is one for every `n`). -/
def ptOf (n : ℕ) : Fin cfg1.N := ⟨n % cfg1.N, Nat.mod_lt _ (by rw [show cfg1.N = 480 from N_1]; omega)⟩

theorem ptOf_val (t : Fin cfg1.N) : ptOf t.val = t := Fin.ext (Nat.mod_eq_of_lt t.isLt)

/-- The tile of `h` computed at grid point `n`. -/
def tileAt (c : Dev nD) (n : ℕ) : Vec F S1x512x512 .f32 :=
  k1_pay49 (iblk1 V c 0 (ptOf n)) (iblk1 V c 1 (ptOf n)) (iblk1 V c 2 (ptOf n)) (iblk1 V c 3 (ptOf n)) (iblk1 V c 4 (ptOf n)) (iblk1 V c 5 (ptOf n))

/-- The lane maxima of the tile computed at grid point `n`. -/
def laneAt (c : Dev nD) (n : ℕ) : Vec F S512x128 .f32 :=
  laneMax (iblk1 V c 0 (ptOf n)) (iblk1 V c 1 (ptOf n)) (iblk1 V c 2 (ptOf n)) (iblk1 V c 3 (ptOf n)) (iblk1 V c 4 (ptOf n)) (iblk1 V c 5 (ptOf n))

/-- The running lane maxima of row block `b` after its column steps `0, …, j`. -/
def amaxUpTo (c : Dev nD) (b : ℕ) : ℕ → Vec F S512x128 .f32
  | 0 => k1_pay1 (laneAt V c (10 * b))
  | j + 1 => k1_pay2 (laneAt V c (10 * b + (j + 1))) (amaxUpTo c b j)

/-- The codes of row block `b`. -/
def codesOf (c : Dev nD) (b : ℕ) : Vec F S512x5120 .fp8e4m3 :=
  codesBlk (amaxUpTo V c b 9) (tileAt V c (10 * b + 0)) (tileAt V c (10 * b + 1)) (tileAt V c (10 * b + 2)) (tileAt V c (10 * b + 3)) (tileAt V c (10 * b + 4)) (tileAt V c (10 * b + 5)) (tileAt V c (10 * b + 6)) (tileAt V c (10 * b + 7)) (tileAt V c (10 * b + 8)) (tileAt V c (10 * b + 9))

/-- The scales of row block `b`. -/
def scaleOf (c : Dev nD) (b : ℕ) : Vec F S512x1 .f32 := scaleBlk (amaxUpTo V c b 9)

theorem slice_inb (k : ℕ) (hk : k < 10) : ∀ a : Fin 3, (![k, 0, 0] : Fin 3 → ℕ) a + (![1, 512, 512] : Fin 3 → ℕ) a ≤ S10x512x512.size a := by
  intro a
  match a with
  | ⟨0, _⟩ => show k + 1 ≤ 10; omega
  | ⟨1, _⟩ => show 0 + 512 ≤ 512; omega
  | ⟨2, _⟩ => show 0 + 512 ≤ 512; omega

/-- Slice `k` of the scratch of `h` tiles. -/
abbrev slice (h : Vec F S10x512x512 .f32) (k : ℕ) (hk : k < 10) : Vec F S1x512x512 .f32 :=
  VecWindow.window (s := S10x512x512) h ![k, 0, 0] ![1, 512, 512] (slice_inb k hk)

/-- A tile put at slice `j` is there; the other slices are as they were. -/
theorem slice_put_same (h : Vec F S10x512x512 .f32) (w : Vec F S1x512x512 .f32) (j : ℕ) (hj : j < 10) :
    slice (VecWindow.put (s := S10x512x512) h ![j, 0, 0] ![1, 512, 512] w) j hj = w :=
  VecWindow.window_put_same (s := S10x512x512) h ![j, 0, 0] ![1, 512, 512] (slice_inb j hj) w

theorem slice_put_ne (h : Vec F S10x512x512 .f32) (w : Vec F S1x512x512 .f32) (j k : ℕ) (hk : k < 10) (hne : k ≠ j) :
    slice (VecWindow.put (s := S10x512x512) h ![j, 0, 0] ![1, 512, 512] w) k hk = slice h k hk := by
  refine VecWindow.window_put_of_disjoint (s := S10x512x512) h ![j, 0, 0] ![1, 512, 512] ![k, 0, 0] ![1, 512, 512] (slice_inb k hk) w 0 ?_
  show k + 1 ≤ j ∨ j + 1 ≤ k
  omega

/-- What the two scratch buffers hold before grid point `n`: the tiles of the column steps done in this row block,
    and the running lane maxima. -/
def Held (c : Dev nD) (n : ℕ) (h : Vec F S10x512x512 .f32) (a : Vec F S512x128 .f32) : Prop :=
  (∀ k (hk : k < n % 10), slice h k (by omega) = tileAt V c (10 * (n / 10) + k))
    ∧ ∀ j, n % 10 = j + 1 → a = amaxUpTo V c (n / 10) j

/-- Nothing is asked before the first column step of a row block. -/
theorem held_start (c : Dev nD) (n : ℕ) (hn : n % 10 = 0) (h : Vec F S10x512x512 .f32) (a : Vec F S512x128 .f32) : Held V c n h a :=
  ⟨fun k hk => by omega, fun j hj => by omega⟩

/-- The first column step. -/
theorem held_first (c : Dev nD) (n : ℕ) (hn : n % 10 = 0) (h : Vec F S10x512x512 .f32) :
    Held V c (n + 1) (VecWindow.put (s := S10x512x512) h ![n % 10, 0, 0] ![1, 512, 512] (tileAt V c n)) (k1_pay1 (laneAt V c n)) := by
  have hd : (n + 1) / 10 = n / 10 := by omega
  have hb : 10 * (n / 10) = n := by omega
  refine ⟨fun k hk => ?_, fun j hj => ?_⟩
  · obtain rfl : k = n % 10 := by omega
    rw [slice_put_same, hd, hn, hb, Nat.add_zero]
  · obtain rfl : j = 0 := by omega
    rw [hd]; show _ = k1_pay1 (laneAt V c (10 * (n / 10))); rw [hb]

/-- A middle column step. -/
theorem held_next (c : Dev nD) (n : ℕ) (h0 : n % 10 ≠ 0) (h9 : n % 10 ≠ 9) (h : Vec F S10x512x512 .f32) (a : Vec F S512x128 .f32)
    (hh : Held V c n h a) :
    Held V c (n + 1) (VecWindow.put (s := S10x512x512) h ![n % 10, 0, 0] ![1, 512, 512] (tileAt V c n)) (k1_pay2 (laneAt V c n) a) := by
  have hd : (n + 1) / 10 = n / 10 := by omega
  have hm : (n + 1) % 10 = n % 10 + 1 := by omega
  have hb : 10 * (n / 10) + n % 10 = n := by omega
  refine ⟨fun k hk => ?_, fun j hj => ?_⟩
  · by_cases hkn : k = n % 10
    · subst hkn; rw [slice_put_same, hd, hb]
    · rw [slice_put_ne h _ _ _ _ hkn, hd]; exact hh.1 k (by omega)
  · obtain ⟨i, rfl⟩ : ∃ i, j = i + 1 := ⟨j - 1, by omega⟩
    rw [hd, hh.2 i (by omega)]
    show _ = k1_pay2 (laneAt V c (10 * (n / 10) + (i + 1))) (amaxUpTo V c (n / 10) i)
    rw [show 10 * (n / 10) + (i + 1) = n by omega]

/-- The store's offsets at a grid point, as numbers. -/
theorem off_at : ∀ t : Fin cfg1.N, k1_off1 (grid1.coords t) = ![t.val % 10, 0, 0] :=
  (by decide +kernel : ∀ t : Fin grid1.N, k1_off1 (grid1.coords t) = ![t.val % 10, 0, 0])

/-- The invariant before grid point `n`: the two scratch buffers as `Held` says, and what the body leaves alone. -/
def PhiS (c : Dev nD) (n : ℕ) (h : n ≤ cfg1.N) : sProp 𝕄 :=
  iprop(∃ d a, ⌜Held V c n d a⌝ ∗ owns (c : Thread nD τ) scM1_0 fullShare d ∗ owns (c : Thread nD τ) scM1_1 fullShare a ∗ Rest c)

/-- The proof data of the pipeline: each input's buffer at its block, the outputs at the row block's codes and scales. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => codesOf V c (t.val / 10)
    | ⟨7, _⟩ => scaleOf V c (t.val / 10)
  Φ t := PhiS V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = codesOf V c (t.val / 10) := by dsimp only [dat1]
theorem after1_7 (c : Dev nD) (t : Fin cfg1.N) : (dat1 V c).after 7 t = scaleOf V c (t.val / 10) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem cover_codes (a : Vec F S512x128 .f32) (p0 p1 p2 p3 p4 p5 p6 p7 p8 p9 : Vec F S1x512x512 .f32) (y : S512x5120.Idx) :
    ∃ pc ∈ codesL a p0 p1 p2 p3 p4 p5 p6 p7 p8 p9, y ∈ pc.1.set :=
  View.cover_of_tiledL (codesL a p0 p1 p2 p3 p4 p5 p6 p7 p8 p9) S512x512.size (by sl_kernel_rfl) y

set_option maxHeartbeats 9600000 in
/-- The body at a first column step. -/
theorem sound_A (c : Dev nD) (t : Fin cfg1.N) (h0 : t.val % 10 = 0) (h1 : ¬1 ≤ t.val % 10) (h2 : ¬t.val % 10 = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_castSucc V c t]
  unfold PhiS
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6_A t ((hcond1_0 t).mpr h0) (fun h => h1 ((hcond1_1 t).mp h)) (fun h => h2 ((hcond1_2 t).mp h))) (noFlush1_6_A t ((hcond1_0 t).mpr h0) (fun h => h1 ((hcond1_1 t).mp h)) (fun h => h2 ((hcond1_2 t).mp h)))]
  rw [Dat.leavesExact_idle (dat1 V c) 7 t (idleAt1_7_A t ((hcond1_0 t).mpr h0) (fun h => h1 ((hcond1_1 t).mp h)) (fun h => h2 ((hcond1_2 t).mp h))) (noFlush1_7_A t ((hcond1_0 t).mpr h0) (fun h => h1 ((hcond1_1 t).mp h)) (fun h => h2 ((hcond1_2 t).mp h)))]
  iintro ⟨⟨%dS0, %dS1, %hh, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have eT : tileAt V c t.val = k1_pay49 (iblk1 V c 0 t) (iblk1 V c 1 t) (iblk1 V c 2 t) (iblk1 V c 3 t) (iblk1 V c 4 t) (iblk1 V c 5 t) := by unfold tileAt; rw [ptOf_val]
  have eL : laneAt V c t.val = laneMax (iblk1 V c 0 t) (iblk1 V c 1 t) (iblk1 V c 2 t) (iblk1 V c 3 t) (iblk1 V c 4 t) (iblk1 V c 5 t) := by unfold laneAt; rw [ptOf_val]
  iapply ((kernelRun1_A c (grid1.coords t) _ _ _ _ _ _ _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t)).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexists _; iexact HS1
  iintro ⟨H0, H1, H2, H3, H4, H5, H6, H7, HS0, ⟨%es1, HS1⟩⟩
  isplitl [HS0 HS1 Hg]
  · iexists (VecWindow.put (s := S10x512x512) dS0 ![t.val % 10, 0, 0] ![1, 512, 512] (tileAt V c t.val)), (k1_pay1 (laneAt V c t.val))
    isplitr
    · ipureintro; exact held_first V c t.val h0 dS0
    isplitl [HS0]
    · unfold owns; iexists _; isplitr
      swap; · iexact HS0
      ipureintro
      rw [piecesA_h, View.read_writes_cons_put _ _ _ _ _ (off_at t), eT]
      exact congrArg (fun z => VecWindow.put (s := S10x512x512) z ![t.val % 10, 0, 0] ![1, 512, 512] _) (Memref.IsWhole.read_unread _ _)
    isplitl [HS1]
    · unfold owns; iexists _; isplitr
      swap; · iexact HS1
      ipureintro
      rw [piecesA_a, eL]
      exact View.read_writes_full _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 9600000 in
/-- The body at a middle column step. -/
theorem sound_B (c : Dev nD) (t : Fin cfg1.N) (h0 : ¬t.val % 10 = 0) (h1 : 1 ≤ t.val % 10) (h2 : ¬t.val % 10 = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_castSucc V c t]
  unfold PhiS
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6_B t (fun h => h0 ((hcond1_0 t).mp h)) ((hcond1_1 t).mpr h1) (fun h => h2 ((hcond1_2 t).mp h))) (noFlush1_6_B t (fun h => h0 ((hcond1_0 t).mp h)) ((hcond1_1 t).mpr h1) (fun h => h2 ((hcond1_2 t).mp h)))]
  rw [Dat.leavesExact_idle (dat1 V c) 7 t (idleAt1_7_B t (fun h => h0 ((hcond1_0 t).mp h)) ((hcond1_1 t).mpr h1) (fun h => h2 ((hcond1_2 t).mp h))) (noFlush1_7_B t (fun h => h0 ((hcond1_0 t).mp h)) ((hcond1_1 t).mpr h1) (fun h => h2 ((hcond1_2 t).mp h)))]
  iintro ⟨⟨%dS0, %dS1, %hh, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have eT : tileAt V c t.val = k1_pay49 (iblk1 V c 0 t) (iblk1 V c 1 t) (iblk1 V c 2 t) (iblk1 V c 3 t) (iblk1 V c 4 t) (iblk1 V c 5 t) := by unfold tileAt; rw [ptOf_val]
  have eL : laneAt V c t.val = laneMax (iblk1 V c 0 t) (iblk1 V c 1 t) (iblk1 V c 2 t) (iblk1 V c 3 t) (iblk1 V c 4 t) (iblk1 V c 5 t) := by unfold laneAt; rw [ptOf_val]
  iapply ((kernelRun1_B c (grid1.coords t) _ _ _ _ _ _ _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) dS1).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, ⟨%es1, HS1⟩⟩
  isplitl [HS0 HS1 Hg]
  · iexists (VecWindow.put (s := S10x512x512) dS0 ![t.val % 10, 0, 0] ![1, 512, 512] (tileAt V c t.val)), (k1_pay2 (laneAt V c t.val) dS1)
    isplitr
    · ipureintro; exact held_next V c t.val h0 h2 dS0 dS1 hh
    isplitl [HS0]
    · unfold owns; iexists _; isplitr
      swap; · iexact HS0
      ipureintro
      rw [piecesB_h, View.read_writes_cons_put _ _ _ _ _ (off_at t), eT]
      exact congrArg (fun z => VecWindow.put (s := S10x512x512) z ![t.val % 10, 0, 0] ![1, 512, 512] _) (Memref.IsWhole.read_unread _ _)
    isplitl [HS1]
    · unfold owns; iexists _; isplitr
      swap; · iexact HS1
      ipureintro
      rw [piecesB_a, eL]
      exact View.read_writes_full _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 9600000 in
/-- The body at a last column step. -/
theorem sound_C (c : Dev nD) (t : Fin cfg1.N) (h0 : ¬t.val % 10 = 0) (h1 : 1 ≤ t.val % 10) (h2 : t.val % 10 = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_castSucc V c t]
  unfold PhiS
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6_C t (fun h => h0 ((hcond1_0 t).mp h)) ((hcond1_1 t).mpr h1) ((hcond1_2 t).mpr h2)], after1_6]
  rw [show (dat1 V c).leavesExact 7 t = owns (c : Thread nD τ) (ms1_7 t) fullShare ((dat1 V c).after 7 t) from by
    unfold Dat.leavesExact; rw [liveAt1_7_C t (fun h => h0 ((hcond1_0 t).mp h)) ((hcond1_1 t).mpr h1) ((hcond1_2 t).mpr h2)], after1_7]
  iintro ⟨⟨%dS0, %dS1, %hh, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have eT : tileAt V c t.val = k1_pay49 (iblk1 V c 0 t) (iblk1 V c 1 t) (iblk1 V c 2 t) (iblk1 V c 3 t) (iblk1 V c 4 t) (iblk1 V c 5 t) := by unfold tileAt; rw [ptOf_val]
  have eL : laneAt V c t.val = laneMax (iblk1 V c 0 t) (iblk1 V c 1 t) (iblk1 V c 2 t) (iblk1 V c 3 t) (iblk1 V c 4 t) (iblk1 V c 5 t) := by unfold laneAt; rw [ptOf_val]
  have hl0 : k1_off1 (grid1.coords t) = ![9, 0, 0] := by rw [off_at t, h2]
  have hp0 : View.readAt (Elt F) scM1_0.view (Rect.unit (s := S10x512x512) ![0, 0, 0] S1x512x512.size inb_S10x512x512_S1x512x512_0_0_0).toLoadRect ((Memref.isWhole_whole cc1_scratch0 : scM1_0.IsWhole).unread dS0) = tileAt V c (10 * (t.val / 10) + 0) := by
    rw [← hh.1 0 (by omega), View.readAt_eq_ld, Memref.IsWhole.read_unread]; rfl
  have hp1 : View.readAt (Elt F) scM1_0.view (Rect.unit (s := S10x512x512) ![1, 0, 0] S1x512x512.size inb_S10x512x512_S1x512x512_1_0_0).toLoadRect ((Memref.isWhole_whole cc1_scratch0 : scM1_0.IsWhole).unread dS0) = tileAt V c (10 * (t.val / 10) + 1) := by
    rw [← hh.1 1 (by omega), View.readAt_eq_ld, Memref.IsWhole.read_unread]; rfl
  have hp2 : View.readAt (Elt F) scM1_0.view (Rect.unit (s := S10x512x512) ![2, 0, 0] S1x512x512.size inb_S10x512x512_S1x512x512_2_0_0).toLoadRect ((Memref.isWhole_whole cc1_scratch0 : scM1_0.IsWhole).unread dS0) = tileAt V c (10 * (t.val / 10) + 2) := by
    rw [← hh.1 2 (by omega), View.readAt_eq_ld, Memref.IsWhole.read_unread]; rfl
  have hp3 : View.readAt (Elt F) scM1_0.view (Rect.unit (s := S10x512x512) ![3, 0, 0] S1x512x512.size inb_S10x512x512_S1x512x512_3_0_0).toLoadRect ((Memref.isWhole_whole cc1_scratch0 : scM1_0.IsWhole).unread dS0) = tileAt V c (10 * (t.val / 10) + 3) := by
    rw [← hh.1 3 (by omega), View.readAt_eq_ld, Memref.IsWhole.read_unread]; rfl
  have hp4 : View.readAt (Elt F) scM1_0.view (Rect.unit (s := S10x512x512) ![4, 0, 0] S1x512x512.size inb_S10x512x512_S1x512x512_4_0_0).toLoadRect ((Memref.isWhole_whole cc1_scratch0 : scM1_0.IsWhole).unread dS0) = tileAt V c (10 * (t.val / 10) + 4) := by
    rw [← hh.1 4 (by omega), View.readAt_eq_ld, Memref.IsWhole.read_unread]; rfl
  have hp5 : View.readAt (Elt F) scM1_0.view (Rect.unit (s := S10x512x512) ![5, 0, 0] S1x512x512.size inb_S10x512x512_S1x512x512_5_0_0).toLoadRect ((Memref.isWhole_whole cc1_scratch0 : scM1_0.IsWhole).unread dS0) = tileAt V c (10 * (t.val / 10) + 5) := by
    rw [← hh.1 5 (by omega), View.readAt_eq_ld, Memref.IsWhole.read_unread]; rfl
  have hp6 : View.readAt (Elt F) scM1_0.view (Rect.unit (s := S10x512x512) ![6, 0, 0] S1x512x512.size inb_S10x512x512_S1x512x512_6_0_0).toLoadRect ((Memref.isWhole_whole cc1_scratch0 : scM1_0.IsWhole).unread dS0) = tileAt V c (10 * (t.val / 10) + 6) := by
    rw [← hh.1 6 (by omega), View.readAt_eq_ld, Memref.IsWhole.read_unread]; rfl
  have hp7 : View.readAt (Elt F) scM1_0.view (Rect.unit (s := S10x512x512) ![7, 0, 0] S1x512x512.size inb_S10x512x512_S1x512x512_7_0_0).toLoadRect ((Memref.isWhole_whole cc1_scratch0 : scM1_0.IsWhole).unread dS0) = tileAt V c (10 * (t.val / 10) + 7) := by
    rw [← hh.1 7 (by omega), View.readAt_eq_ld, Memref.IsWhole.read_unread]; rfl
  have hp8 : View.readAt (Elt F) scM1_0.view (Rect.unit (s := S10x512x512) ![8, 0, 0] S1x512x512.size inb_S10x512x512_S1x512x512_8_0_0).toLoadRect ((Memref.isWhole_whole cc1_scratch0 : scM1_0.IsWhole).unread dS0) = tileAt V c (10 * (t.val / 10) + 8) := by
    rw [← hh.1 8 (by omega), View.readAt_eq_ld, Memref.IsWhole.read_unread]; rfl
  iapply ((kernelRun1_C c (grid1.coords t) _ _ _ _ _ _ _ _ _ _ _ _ _ _ _ _ _ _ _ _ (fun h => h0 ((hcond1_0 t).mp h)) ((hcond1_1 t).mpr h1) ((hcond1_2 t).mpr h2) hl0 (iblk1 V c 0 t) (iblk1 V c 1 t) (iblk1 V c 2 t) (iblk1 V c 3 t) (iblk1 V c 4 t) (iblk1 V c 5 t) dS1 (tileAt V c (10 * (t.val / 10) + 0)) (tileAt V c (10 * (t.val / 10) + 1)) (tileAt V c (10 * (t.val / 10) + 2)) (tileAt V c (10 * (t.val / 10) + 3)) (tileAt V c (10 * (t.val / 10) + 4)) (tileAt V c (10 * (t.val / 10) + 5)) (tileAt V c (10 * (t.val / 10) + 6)) (tileAt V c (10 * (t.val / 10) + 7)) (tileAt V c (10 * (t.val / 10) + 8))).2.2.2.2 dS0 hp0 hp1 hp2 hp3 hp4 hp5 hp6 hp7 hp8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, HS0, ⟨%es1, HS1⟩⟩
  isplitl [HS0 HS1 Hg]
  · iexists (VecWindow.put (s := S10x512x512) dS0 ![t.val % 10, 0, 0] ![1, 512, 512] (tileAt V c t.val)), (k1_pay2 (laneAt V c t.val) dS1)
    isplitr
    · ipureintro; exact held_start V c (t.val + 1) (by omega) _ _
    isplitl [HS0]
    · unfold owns; iexists _; isplitr
      swap; · iexact HS0
      ipureintro
      rw [piecesC_h, View.read_writes_cons_put _ _ _ _ _ (off_at t), eT]
      exact congrArg (fun z => VecWindow.put (s := S10x512x512) z ![t.val % 10, 0, 0] ![1, 512, 512] _) (Memref.IsWhole.read_unread _ _)
    isplitl [HS1]
    · unfold owns; iexists _; isplitr
      swap; · iexact HS1
      ipureintro
      rw [piecesC_a, eL]
      exact View.read_writes_full _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  have eA : amaxUpTo V c (t.val / 10) 9 = k1_pay2 (laneMax (iblk1 V c 0 t) (iblk1 V c 1 t) (iblk1 V c 2 t) (iblk1 V c 3 t) (iblk1 V c 4 t) (iblk1 V c 5 t)) dS1 := by
    rw [← eL, hh.2 8 (by omega)]
    show k1_pay2 (laneAt V c (10 * (t.val / 10) + (8 + 1))) _ = _
    rw [show 10 * (t.val / 10) + (8 + 1) = t.val by omega]
  isplitl [H6]
  · unfold owns; iexists _; isplitr
    swap; · iexact H6
    ipureintro
    rw [piecesC_6, View.read_writes_eq_canon _ _ _ (cover_codes _ _ _ _ _ _ _ _ _ _ _)]
    unfold codesOf
    rw [eA, show 10 * (t.val / 10) + 9 = t.val by omega, eT]
    rfl
  unfold owns; iexists _; isplitr
  swap; · iexact H7
  ipureintro
  rw [piecesC_7]
  unfold scaleOf
  rw [eA]
  exact View.read_writes_full _ _ _ _ _

/-- The body at any grid point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 10 = 0
  · exact sound_A V c t h0 (by omega) (by omega)
  · by_cases h2 : t.val % 10 = 9
    · exact sound_C V c t h0 (by omega) h2
    · exact sound_B V c t h0 (by omega) h2

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin (c : Dev nD) : Pipeline.ΦA spec1 c ⊢ (dat1 V c).Φ 0 := by
  rw [show (dat1 V c).Φ 0 = PhiS V c 0 (Nat.zero_le _) from rfl, PhiA1_eq]
  unfold PhiS
  unfold Rest Others
  iintro ⟨⟨HR0, HR1, HR2, HR3, HR4, HR5, ⟨%dS0, HS0⟩, ⟨%dS1, HS1⟩⟩, Hg⟩
  iexists dS0, dS1
  isplitr
  · ipureintro; exact held_start V c 0 rfl _ _
  isplitl [HS0]; · iexact HS0
  isplitl [HS1]; · iexact HS1
  isplitl [HR0 HR1 HR2 HR3 HR4 HR5]
  · isplitl [HR0]; · iexact HR0
    isplitl [HR1]; · iexact HR1
    isplitl [HR2]; · iexact HR2
    isplitl [HR3]; · iexact HR3
    isplitl [HR4]; · iexact HR4
    iexact HR5
  iexact Hg

/-- After the last point the invariant gives the scratch back. -/
theorem hout (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  unfold PhiS
  unfold Rest Others
  iintro ⟨%dS0, %dS1, %hh, HS0, HS1, ⟨HR0, HR1, HR2, HR3, HR4, HR5⟩, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]
    · iexists _; iexact HS0
    iexists _; iexact HS1
  iexact Hg

end Cert.KernelIdeal.Hand

end
-- ==== Proof.WholeRun.lean ====
/-
The two calls of the kernel one after the other: what every buffer holds between them and at the end, and the run of the
whole kernel.
-/
module

public import proofs.«01_k».proof.Proof.QuantiseRegion
public import proofs.«01_k».proof.Proof.GateupFrame
public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Cert.KernelIdeal.Hand.hin (V2 m ρ) c)
    unfold Pipeline.ΦA
    iintro ⟨Hp, -, Hr⟩
    isplitl [Hr]; · iexact Hr
    iexact Hp
  hout c := by
    refine (Cert.KernelIdeal.Hand.hout (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the whole kernel: from any memory with zero counters every execution ends, nothing faulting, with every
    buffer outside the calls' scratch at `W3` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The kernel ends with its arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c)⟩, h.2⟩) (run_all m ρ)

/-! ## The four results -/

/-- The codes and the scales of the second call. -/
theorem W3_main_v3_0 (c : Dev nD) : W3 m ρ c (Proc.devRef .tc main_v3_0) = (dat1 (V2 m ρ) c).arrAt 6 cfg1.N := W3_arr m ρ c 6
theorem W3_main_v3_1 (c : Dev nD) : W3 m ρ c (Proc.devRef .tc main_v3_1) = (dat1 (V2 m ρ) c).arrAt 7 cfg1.N := W3_arr m ρ c 7
/-- The codes and the scales of the first call, which the second call only reads. -/
theorem W2_main_v2_0 (c : Dev nD) : W2 m ρ c (Proc.devRef .tc main_v2_0) = (dat0 (V1 m ρ) c).arrAt 1 cfg0.N := W2_arr m ρ c 1
theorem W2_main_v2_1 (c : Dev nD) : W2 m ρ c (Proc.devRef .tc main_v2_1) = (dat0 (V1 m ρ) c).arrAt 2 cfg0.N := W2_arr m ρ c 2
theorem W3_main_v2_0 (c : Dev nD) : W3 m ρ c (Proc.devRef .tc main_v2_0) = (dat0 (V1 m ρ) c).arrAt 1 cfg0.N :=
  (W3_of m ρ c main_v2_0 (by decide +kernel)).trans (W2_main_v2_0 m ρ c)
theorem W3_main_v2_1 (c : Dev nD) : W3 m ρ c (Proc.devRef .tc main_v2_1) = (dat0 (V1 m ρ) c).arrAt 2 cfg0.N :=
  (W3_of m ρ c main_v2_1 (by decide +kernel)).trans (W2_main_v2_1 m ρ c)

/-- The kernel runs, leaves those four arrays, and leaves its arguments as they were. -/
theorem run_arrays : θ_run defs (onTc (τ := τ) (main (F := F))) ⟨m, fun _ => 0, ρ⟩ fun r => ∀ c : Dev nD,
      r.2.mem ((c : Thread nD τ).loc main_v3_1) = (dat1 (V2 m ρ) c).arrAt 7 cfg1.N
      ∧ r.2.mem ((c : Thread nD τ).loc main_v3_0) = (dat1 (V2 m ρ) c).arrAt 6 cfg1.N
      ∧ r.2.mem ((c : Thread nD τ).loc main_v2_0) = (dat0 (V1 m ρ) c).arrAt 1 cfg0.N
      ∧ r.2.mem ((c : Thread nD τ).loc main_v2_1) = (dat0 (V1 m ρ) c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h.1 c _ (mem_uc main_v3_1 (by decide))).trans (W3_main_v3_1 m ρ c),
       (h.1 c _ (mem_uc main_v3_0 (by decide))).trans (W3_main_v3_0 m ρ c),
       (h.1 c _ (mem_uc main_v2_0 (by decide))).trans (W3_main_v2_0 m ρ c),
       (h.1 c _ (mem_uc main_v2_1 (by decide))).trans (W3_main_v2_1 m ρ c),
       (h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c)⟩) (run_all m ρ)

end Cert.KernelIdeal.Hand

end
-- ==== Proof.WholeBits.lean ====
/-
The frame of the kernel in floats. The program printed for floats and the one printed for the reals are the
same code, and the frame of the second is proved for every float carrier, so it is the frame of the first.
-/
module

public import proofs.«01_k».proof.Defs
public import proofs.«01_k».proof.Proof.Gen.Kernel
public import proofs.«01_k».proof.Proof.WholeRun

@[expose] public section

noncomputable section

namespace Cert.Kernel.Hand

open Idealize.ShloMosaic Idealize.ShloMosaic.TcCoe Idealize.SL.Sem

set_option smartUnfolding false in
/-- The kernel bodies of the two programs are the same. -/
theorem defs₀_eq : Cert.Kernel.defs₀ (F := Bits) = Cert.KernelIdeal.defs₀ (F := Bits) := by rfl

/-- So are their body tables. -/
theorem defs_eq : Cert.Kernel.defs (F := Bits) = Cert.KernelIdeal.defs (F := Bits) := by
  unfold Cert.Kernel.defs Cert.KernelIdeal.defs
  exact congrArg (Pipeline.defs Cert.KernelIdeal.pcfgs) defs₀_eq

/-- And their main programs. -/
theorem main_eq : Cert.Kernel.main (F := Bits) = Cert.KernelIdeal.main (F := Bits) := by rfl

/-- The kernel in floats runs, ends with its arguments unchanged and every counter at zero. -/
theorem quiescent : Cert.quiescent_Kernel := by
  intro m g _
  have h := Cert.KernelIdeal.Hand.frame (F := Bits) m g
  rw [← defs_eq, ← main_eq] at h
  exact h

end Cert.Kernel.Hand

end
-- ==== Proof.Exponent.lean ====
/-
The power-of-two scale of one row, over the reals. The kernel finds the exponent of `t = amax / 448` by halving and
doubling in steps of 64, 32, 16, 8, 4, 2, 1 and builds the scale from the exponent's bits; the reference takes
`⌊log t / log 2⌋ + 1` and `2 ^ ·`. Both clip the exponent to ±126 and take 0 for a zero or an infinite `t`. This file
shows that the two agree.
-/
module

public import Idealize.ShloMosaic.PureOps.Ideal
public import Idealize.ShloMosaic.Lib.IdealHost
public import Mathlib.Analysis.SpecialFunctions.Pow.Real

@[expose] public section

set_option maxRecDepth 16384

noncomputable section

namespace Cert.Exponent

open Idealize.ShloMosaic

/-! ### The kernel's search, on one number -/

/-- One halving step on the significand: multiply by the constant of pattern `c'` if at least the constant of
    pattern `c`. -/
def upV (c c' : BitVec 32) (v : Ideal .f32) : Ideal .f32 :=
  Scalar.select (FloatOps.cmpf .oge v (FloatOps.ofBits (F := Ideal) .f32 c)) (FloatOps.mulf v (FloatOps.ofBits (F := Ideal) .f32 c')) v

/-- The same step on the exponent: add `k`. -/
def upE (c k : BitVec 32) (v : Ideal .f32) (e : BitVec 32) : BitVec 32 :=
  Scalar.select (FloatOps.cmpf .oge v (FloatOps.ofBits (F := Ideal) .f32 c)) (IntOp.addi e k) e

/-- One doubling step on the significand: multiply by the constant of pattern `c'` if below the constant of
    pattern `c`. -/
def dnV (c c' : BitVec 32) (v : Ideal .f32) : Ideal .f32 :=
  Scalar.select (FloatOps.cmpf .olt v (FloatOps.ofBits (F := Ideal) .f32 c)) (FloatOps.mulf v (FloatOps.ofBits (F := Ideal) .f32 c')) v

/-- The same step on the exponent: subtract `k`. -/
def dnE (c k : BitVec 32) (v : Ideal .f32) (e : BitVec 32) : BitVec 32 :=
  Scalar.select (FloatOps.cmpf .olt v (FloatOps.ofBits (F := Ideal) .f32 c)) (IntOp.subi e k) e

/-- A significand and an exponent. -/
abbrev ME : Type := Ideal .f32 × BitVec 32

def up (c c' k : BitVec 32) (p : ME) : ME := (upV c c' p.1, upE c k p.1 p.2)
def dn (c c' k : BitVec 32) (p : ME) : ME := (dnV c c' p.1, dnE c k p.1 p.2)

theorem up_fst (c c' k : BitVec 32) (p : ME) : (up c c' k p).1 = upV c c' p.1 := rfl
theorem up_snd (c c' k : BitVec 32) (p : ME) : (up c c' k p).2 = upE c k p.1 p.2 := rfl
theorem dn_fst (c c' k : BitVec 32) (p : ME) : (dn c c' k p).1 = dnV c c' p.1 := rfl
theorem dn_snd (c c' k : BitVec 32) (p : ME) : (dn c c' k p).2 = dnE c k p.1 p.2 := rfl

def u1 (t : Ideal .f32) : ME := up 0x5F800000#32 0x1F800000#32 64#32 (t, 1#32)
def u2 (t : Ideal .f32) : ME := up 0x4F800000#32 0x2F800000#32 32#32 (u1 t)
def u3 (t : Ideal .f32) : ME := up 0x47800000#32 0x37800000#32 16#32 (u2 t)
def u4 (t : Ideal .f32) : ME := up 0x43800000#32 0x3B800000#32 8#32 (u3 t)
def u5 (t : Ideal .f32) : ME := up 0x41800000#32 0x3D800000#32 4#32 (u4 t)
def u6 (t : Ideal .f32) : ME := up 0x40800000#32 0x3E800000#32 2#32 (u5 t)
def u7 (t : Ideal .f32) : ME := up 0x40000000#32 0x3F000000#32 1#32 (u6 t)
def d1 (t : Ideal .f32) : ME := dn 0x20000000#32 0x5F800000#32 64#32 (u7 t)
def d2 (t : Ideal .f32) : ME := dn 0x30000000#32 0x4F800000#32 32#32 (d1 t)
def d3 (t : Ideal .f32) : ME := dn 0x38000000#32 0x47800000#32 16#32 (d2 t)
def d4 (t : Ideal .f32) : ME := dn 0x3C000000#32 0x43800000#32 8#32 (d3 t)
def d5 (t : Ideal .f32) : ME := dn 0x3E000000#32 0x41800000#32 4#32 (d4 t)
def d6 (t : Ideal .f32) : ME := dn 0x3F000000#32 0x40800000#32 2#32 (d5 t)
/-- The exponent after all fourteen steps (the last step leaves the significand alone). -/
def found (t : Ideal .f32) : BitVec 32 := dnE 0x3F800000#32 1#32 (d6 t).1 (d6 t).2

/-! The two components of each step. -/

theorem u1_m (t : Ideal .f32) : (u1 t).1 = upV 0x5F800000#32 0x1F800000#32 t := by simp only [u1, up_fst]
theorem u1_e (t : Ideal .f32) : (u1 t).2 = upE 0x5F800000#32 64#32 t 1#32 := by simp only [u1, up_snd]
theorem u2_m (t : Ideal .f32) : (u2 t).1 = upV 0x4F800000#32 0x2F800000#32 (u1 t).1 := by simp only [u2, up_fst]
theorem u2_e (t : Ideal .f32) : (u2 t).2 = upE 0x4F800000#32 32#32 (u1 t).1 (u1 t).2 := by simp only [u2, up_snd]
theorem u3_m (t : Ideal .f32) : (u3 t).1 = upV 0x47800000#32 0x37800000#32 (u2 t).1 := by simp only [u3, up_fst]
theorem u3_e (t : Ideal .f32) : (u3 t).2 = upE 0x47800000#32 16#32 (u2 t).1 (u2 t).2 := by simp only [u3, up_snd]
theorem u4_m (t : Ideal .f32) : (u4 t).1 = upV 0x43800000#32 0x3B800000#32 (u3 t).1 := by simp only [u4, up_fst]
theorem u4_e (t : Ideal .f32) : (u4 t).2 = upE 0x43800000#32 8#32 (u3 t).1 (u3 t).2 := by simp only [u4, up_snd]
theorem u5_m (t : Ideal .f32) : (u5 t).1 = upV 0x41800000#32 0x3D800000#32 (u4 t).1 := by simp only [u5, up_fst]
theorem u5_e (t : Ideal .f32) : (u5 t).2 = upE 0x41800000#32 4#32 (u4 t).1 (u4 t).2 := by simp only [u5, up_snd]
theorem u6_m (t : Ideal .f32) : (u6 t).1 = upV 0x40800000#32 0x3E800000#32 (u5 t).1 := by simp only [u6, up_fst]
theorem u6_e (t : Ideal .f32) : (u6 t).2 = upE 0x40800000#32 2#32 (u5 t).1 (u5 t).2 := by simp only [u6, up_snd]
theorem u7_m (t : Ideal .f32) : (u7 t).1 = upV 0x40000000#32 0x3F000000#32 (u6 t).1 := by simp only [u7, up_fst]
theorem u7_e (t : Ideal .f32) : (u7 t).2 = upE 0x40000000#32 1#32 (u6 t).1 (u6 t).2 := by simp only [u7, up_snd]
theorem d1_m (t : Ideal .f32) : (d1 t).1 = dnV 0x20000000#32 0x5F800000#32 (u7 t).1 := by simp only [d1, dn_fst]
theorem d1_e (t : Ideal .f32) : (d1 t).2 = dnE 0x20000000#32 64#32 (u7 t).1 (u7 t).2 := by simp only [d1, dn_snd]
theorem d2_m (t : Ideal .f32) : (d2 t).1 = dnV 0x30000000#32 0x4F800000#32 (d1 t).1 := by simp only [d2, dn_fst]
theorem d2_e (t : Ideal .f32) : (d2 t).2 = dnE 0x30000000#32 32#32 (d1 t).1 (d1 t).2 := by simp only [d2, dn_snd]
theorem d3_m (t : Ideal .f32) : (d3 t).1 = dnV 0x38000000#32 0x47800000#32 (d2 t).1 := by simp only [d3, dn_fst]
theorem d3_e (t : Ideal .f32) : (d3 t).2 = dnE 0x38000000#32 16#32 (d2 t).1 (d2 t).2 := by simp only [d3, dn_snd]
theorem d4_m (t : Ideal .f32) : (d4 t).1 = dnV 0x3C000000#32 0x43800000#32 (d3 t).1 := by simp only [d4, dn_fst]
theorem d4_e (t : Ideal .f32) : (d4 t).2 = dnE 0x3C000000#32 8#32 (d3 t).1 (d3 t).2 := by simp only [d4, dn_snd]
theorem d5_m (t : Ideal .f32) : (d5 t).1 = dnV 0x3E000000#32 0x41800000#32 (d4 t).1 := by simp only [d5, dn_fst]
theorem d5_e (t : Ideal .f32) : (d5 t).2 = dnE 0x3E000000#32 4#32 (d4 t).1 (d4 t).2 := by simp only [d5, dn_snd]
theorem d6_m (t : Ideal .f32) : (d6 t).1 = dnV 0x3F000000#32 0x40800000#32 (d5 t).1 := by simp only [d6, dn_fst]
theorem d6_e (t : Ideal .f32) : (d6 t).2 = dnE 0x3F000000#32 2#32 (d5 t).1 (d5 t).2 := by simp only [d6, dn_snd]

/-- `t` is finite and not zero. -/
def proper (t : Ideal .f32) : BitVec 1 :=
  IntOp.andi (IntOp.xori (FloatOps.weird t) 1#1) (FloatOps.cmpf .one t (FloatOps.ofBits (F := Ideal) .f32 0x00000000#32))

/-- The largest magnitude of a row over 448. -/
def over (a : Ideal .f32) : Ideal .f32 := FloatOps.mulf a (FloatOps.ofBits (F := Ideal) .f32 0x3B124925#32)

/-- The kernel's exponent before the test for a zero row. -/
def kExp0 (t : Ideal .f32) : BitVec 32 :=
  Scalar.select (proper t) (IntOp.minsi 126#32 (IntOp.maxsi 4294967170#32 (found t))) 0#32

/-- The kernel's exponent of a row whose largest magnitude is `a`. -/
def kExp (a : Ideal .f32) : BitVec 32 :=
  Scalar.select (FloatOps.cmpf .oeq a (FloatOps.ofBits (F := Ideal) .f32 0x00000000#32)) 0#32 (kExp0 (over a))

/-- The kernel's scale: the float whose exponent bits are `kExp a + 127`. -/
def kScale (a : Ideal .f32) : Ideal .f32 :=
  FloatOps.ofBits .f32 (IntOp.shli .vector (IntOp.addi (kExp a) 127#32) 23#32)

/-- The kernel's inverse scale. -/
def kInv (a : Ideal .f32) : Ideal .f32 :=
  FloatOps.ofBits .f32 (IntOp.shli .vector (IntOp.addi (IntOp.subi 0#32 (kExp a)) 127#32) 23#32)

/-! ### The reference's formula -/

/-- The reference's exponent before the test for a zero row. -/
def rExp0 (t : Ideal .f32) : Ideal .f32 :=
  Scalar.select (proper t)
    (FloatOps.minimumf (FloatOps.ofBits (F := Ideal) .f32 0x42FC0000#32) (FloatOps.maximumf (FloatOps.ofBits (F := Ideal) .f32 0xC2FC0000#32)
      (FloatOps.addf (FloatOps.floor (FloatOps.divf (FloatOps.log t) (FloatOps.log (FloatOps.ofBits (F := Ideal) .f32 0x40000000#32))))
        (FloatOps.ofBits (F := Ideal) .f32 0x3F800000#32))))
    (FloatOps.ofBits (F := Ideal) .f32 0x00000000#32)

/-- The reference's exponent of a row whose largest magnitude is `a`. -/
def rExp (a : Ideal .f32) : Ideal .f32 :=
  Scalar.select (FloatOps.cmpf .oeq a (FloatOps.ofBits (F := Ideal) .f32 0x00000000#32)) (FloatOps.ofBits (F := Ideal) .f32 0x00000000#32)
    (rExp0 (over a))

/-- The reference's scale. -/
def rScale (a : Ideal .f32) : Ideal .f32 := FloatOps.exp2 (rExp a)

/-- The reference's inverse scale. -/
def rInv (a : Ideal .f32) : Ideal .f32 :=
  FloatOps.exp2 (FloatOps.subf (FloatOps.ofBits (F := Ideal) .f32 0x00000000#32) (rExp a))

/-! ### Patterns of powers of two -/

theorem bits_sign : ∀ E : Fin 256, (BitVec.ofNat 32 E.val <<< 23).extractLsb' 31 1 = 0#1 := by decide +kernel
theorem bits_exp : ∀ E : Fin 256, ((BitVec.ofNat 32 E.val <<< 23).extractLsb' 23 8).toNat = E.val := by decide +kernel
theorem bits_frac : ∀ E : Fin 256, ((BitVec.ofNat 32 E.val <<< 23).extractLsb' 0 23).toNat = 0 := by decide +kernel

/-- The pattern with exponent field `E` and no fraction is the real `2 ^ (E - 127)`. -/
theorem ofBits_pow (E : ℕ) (h1 : 1 ≤ E) (h2 : E ≤ 254) :
    Ideal.ofBits .f32 (BitVec.ofNat 32 E <<< 23) = (((2 : ℝ) ^ ((E : ℤ) - 127) : ℝ) : EReal) := by
  have s := bits_sign ⟨E, by omega⟩
  have e := bits_exp ⟨E, by omega⟩
  have f := bits_frac ⟨E, by omega⟩
  simp only at s e f
  have n255 : E ≠ 2 ^ 8 - 1 := by omega
  have n0 : E ≠ 0 := by omega
  unfold Ideal.ofBits Ideal.ieee
  simp only [s, e, f, if_neg n255, if_neg n0]
  refine EReal.coe_eq_coe_iff.mpr ?_
  have : ((E : ℤ) - (2 ^ (8 - 1) - 1) - (23 : ℕ)) = ((E : ℤ) - 127) + (-23) := by norm_num; ring
  rw [this, zpow_add₀ (by norm_num)]
  norm_num
  ring

/-- The pattern of the constant `2 ^ z`. -/
theorem ofBits_two (b : BitVec 32) (E : ℕ) (z : ℤ) (hb : b = BitVec.ofNat 32 E <<< 23) (h1 : 1 ≤ E) (h2 : E ≤ 254)
    (hz : (E : ℤ) - 127 = z) : (FloatOps.ofBits (F := Ideal) .f32 b) = (((2 : ℝ) ^ z : ℝ) : EReal) := by
  rw [hb, ← hz]; exact ofBits_pow E h1 h2

/-! ### What a step does to `t = r · 2 ^ (z - 1)` -/

/-- `p` holds the real `r` and the exponent `z`, and `t = r · 2 ^ (z - 1)`. -/
structure Holds (t : ℝ) (p : ME) (r : ℝ) (z : ℤ) : Prop where
  m : p.1 = (r : EReal)
  e : p.2 = BitVec.ofInt 32 z
  pos : 0 < r
  eq : t = r * (2 : ℝ) ^ (z - 1)

theorem select_one {α : Type} (P : Prop) [Decidable P] (h : P) (x y : α) : Scalar.select (BitVec.ofBool (decide P)) x y = x := by
  simp [Scalar.select, h]
theorem select_true {α : Type} (x y : α) : Scalar.select 1 x y = x := by simp [Scalar.select]
theorem select_zero {α : Type} (P : Prop) [Decidable P] (h : ¬ P) (x y : α) : Scalar.select (BitVec.ofBool (decide P)) x y = y := by
  simp [Scalar.select, h]

theorem up_yes {t : ℝ} {p : ME} {r : ℝ} {z : ℤ} (h : Holds t p r z) (c c' K : BitVec 32) (k : ℤ)
    (hc : (FloatOps.ofBits (F := Ideal) .f32 c) = (((2 : ℝ) ^ k : ℝ) : EReal)) (hc' : (FloatOps.ofBits (F := Ideal) .f32 c') = (((2 : ℝ) ^ (-k) : ℝ) : EReal))
    (hK : K = BitVec.ofInt 32 k) (hr : (2 : ℝ) ^ k ≤ r) : Holds t (up c c' K p) (r * 2 ^ (-k)) (z + k) := by
  have cond : ((((2 : ℝ) ^ k : ℝ) : EReal)) ≤ (r : EReal) := by exact_mod_cast hr
  refine ⟨?_, ?_, by have := h.pos; positivity, ?_⟩
  · show Scalar.select (BitVec.ofBool (decide (FloatOps.ofBits (F := Ideal) .f32 c ≤ p.1))) (p.1 * FloatOps.ofBits (F := Ideal) .f32 c') p.1 = _
    rw [hc, hc', h.m, select_one _ cond, ← EReal.coe_mul]
  · show Scalar.select (BitVec.ofBool (decide (FloatOps.ofBits (F := Ideal) .f32 c ≤ p.1))) (p.2 + K) p.2 = _
    rw [hc, h.m, select_one _ cond, h.e, hK, BitVec.ofInt_add]
  · rw [h.eq, mul_assoc, ← zpow_add₀ (by norm_num)]; congr 2; ring

theorem up_no {t : ℝ} {p : ME} {r : ℝ} {z : ℤ} (h : Holds t p r z) (c c' K : BitVec 32) (k : ℤ)
    (hc : (FloatOps.ofBits (F := Ideal) .f32 c) = (((2 : ℝ) ^ k : ℝ) : EReal)) (hr : ¬ (2 : ℝ) ^ k ≤ r) : Holds t (up c c' K p) r z := by
  have cond : ¬ ((((2 : ℝ) ^ k : ℝ) : EReal)) ≤ (r : EReal) := by exact_mod_cast hr
  refine ⟨?_, ?_, h.pos, h.eq⟩
  · show Scalar.select (BitVec.ofBool (decide (FloatOps.ofBits (F := Ideal) .f32 c ≤ p.1))) (p.1 * FloatOps.ofBits (F := Ideal) .f32 c') p.1 = _
    rw [hc, h.m, select_zero _ cond]
  · show Scalar.select (BitVec.ofBool (decide (FloatOps.ofBits (F := Ideal) .f32 c ≤ p.1))) (p.2 + K) p.2 = _
    rw [hc, h.m, select_zero _ cond, h.e]

/-- Between halving steps: the exponent lies between 1 and `A`, the significand is below `2 ^ s` unless the exponent
    is at its top, and at least 1 unless the exponent is 1. -/
def UpTo (t : ℝ) (p : ME) (s A : ℤ) : Prop :=
  ∃ r z, Holds t p r z ∧ 1 ≤ z ∧ z ≤ A ∧ (r < (2 : ℝ) ^ s ∨ z = A) ∧ (1 ≤ r ∨ z = 1)

theorem UpTo.step {t : ℝ} {p : ME} {s A : ℤ} (h : UpTo t p s A) (c c' K : BitVec 32) (k : ℤ) (hs : s = k + k) (hk : 0 ≤ k)
    (hc : (FloatOps.ofBits (F := Ideal) .f32 c) = (((2 : ℝ) ^ k : ℝ) : EReal)) (hc' : (FloatOps.ofBits (F := Ideal) .f32 c') = (((2 : ℝ) ^ (-k) : ℝ) : EReal))
    (hK : K = BitVec.ofInt 32 k) (A' : ℤ) (hA : A' = A + k) : UpTo t (up c c' K p) k A' := by
  subst hA
  obtain ⟨r, z, h, z1, zA, lo, hi⟩ := h
  by_cases hr : (2 : ℝ) ^ k ≤ r
  · refine ⟨_, _, up_yes h c c' K k hc hc' hK hr, by omega, by omega, ?_, .inl ?_⟩
    · rcases lo with lo | lo
      · left
        rw [zpow_neg, ← div_eq_mul_inv, div_lt_iff₀ (by positivity), ← zpow_add₀ (by norm_num), ← hs]; exact lo
      · right; omega
    · rw [zpow_neg, ← div_eq_mul_inv, le_div_iff₀ (by positivity), one_mul]; exact hr
  · exact ⟨_, _, up_no h c c' K k hc hr, z1, by omega, .inl (not_le.mp hr), hi⟩

/-- Between doubling steps. -/
def DnTo (t : ℝ) (p : ME) (s B : ℤ) : Prop :=
  ∃ r z, Holds t p r z ∧ B ≤ z ∧ z ≤ 128 ∧ ((2 : ℝ) ^ (1 - s) ≤ r ∨ z = B) ∧ (r < 2 ∨ z = 128)

theorem dn_yes {t : ℝ} {p : ME} {r : ℝ} {z : ℤ} (h : Holds t p r z) (c c' K : BitVec 32) (k : ℤ)
    (hc : (FloatOps.ofBits (F := Ideal) .f32 c) = (((2 : ℝ) ^ (1 - k) : ℝ) : EReal)) (hc' : (FloatOps.ofBits (F := Ideal) .f32 c') = (((2 : ℝ) ^ k : ℝ) : EReal))
    (hK : K = BitVec.ofInt 32 k) (hr : r < (2 : ℝ) ^ (1 - k)) : Holds t (dn c c' K p) (r * 2 ^ k) (z - k) := by
  have cond : (r : EReal) < ((((2 : ℝ) ^ (1 - k) : ℝ) : EReal)) := by exact_mod_cast hr
  refine ⟨?_, ?_, by have := h.pos; positivity, ?_⟩
  · show Scalar.select (BitVec.ofBool (decide (p.1 < FloatOps.ofBits (F := Ideal) .f32 c))) (p.1 * FloatOps.ofBits (F := Ideal) .f32 c') p.1 = _
    rw [hc, hc', h.m, select_one _ cond, ← EReal.coe_mul]
  · show Scalar.select (BitVec.ofBool (decide (p.1 < FloatOps.ofBits (F := Ideal) .f32 c))) (p.2 - K) p.2 = _
    rw [hc, h.m, select_one _ cond, h.e, hK, sub_eq_add_neg z, BitVec.ofInt_add, BitVec.ofInt_neg, BitVec.sub_eq_add_neg]
  · rw [h.eq, mul_assoc, ← zpow_add₀ (by norm_num)]; congr 2; ring

theorem dn_no {t : ℝ} {p : ME} {r : ℝ} {z : ℤ} (h : Holds t p r z) (c c' K : BitVec 32) (k : ℤ)
    (hc : (FloatOps.ofBits (F := Ideal) .f32 c) = (((2 : ℝ) ^ (1 - k) : ℝ) : EReal)) (hr : ¬ r < (2 : ℝ) ^ (1 - k)) :
    Holds t (dn c c' K p) r z := by
  have cond : ¬ (r : EReal) < ((((2 : ℝ) ^ (1 - k) : ℝ) : EReal)) := by exact_mod_cast hr
  refine ⟨?_, ?_, h.pos, h.eq⟩
  · show Scalar.select (BitVec.ofBool (decide (p.1 < FloatOps.ofBits (F := Ideal) .f32 c))) (p.1 * FloatOps.ofBits (F := Ideal) .f32 c') p.1 = _
    rw [hc, h.m, select_zero _ cond]
  · show Scalar.select (BitVec.ofBool (decide (p.1 < FloatOps.ofBits (F := Ideal) .f32 c))) (p.2 - K) p.2 = _
    rw [hc, h.m, select_zero _ cond, h.e]

theorem DnTo.step {t : ℝ} {p : ME} {s B : ℤ} (h : DnTo t p s B) (c c' K : BitVec 32) (k : ℤ) (hs : s = k + k) (hk : 0 ≤ k)
    (hc : (FloatOps.ofBits (F := Ideal) .f32 c) = (((2 : ℝ) ^ (1 - k) : ℝ) : EReal)) (hc' : (FloatOps.ofBits (F := Ideal) .f32 c') = (((2 : ℝ) ^ k : ℝ) : EReal))
    (hK : K = BitVec.ofInt 32 k) (B' : ℤ) (hB : B' = B - k) : DnTo t (dn c c' K p) k B' := by
  subst hB
  obtain ⟨r, z, h, zB, z128, lo, hi⟩ := h
  by_cases hr : r < (2 : ℝ) ^ (1 - k)
  · refine ⟨_, _, dn_yes h c c' K k hc hc' hK hr, by omega, by omega, ?_, .inl ?_⟩
    · rcases lo with lo | lo
      · left
        have : (2 : ℝ) ^ (1 - k) = (2 : ℝ) ^ (1 - s) * 2 ^ k := by rw [← zpow_add₀ (by norm_num)]; congr 1; omega
        rw [this]; exact mul_le_mul_of_nonneg_right lo (by positivity)
      · right; omega
    · have : (2 : ℝ) = (2 : ℝ) ^ (1 - k) * 2 ^ k := by rw [← zpow_add₀ (by norm_num)]; norm_num
      calc r * 2 ^ k < (2 : ℝ) ^ (1 - k) * 2 ^ k := mul_lt_mul_of_pos_right hr (by positivity)
        _ = 2 := this.symm
  · exact ⟨_, _, dn_no h c c' K k hc hr, by omega, z128, .inl (not_lt.mp hr), hi⟩

/-- A positive real before the search: significand `t`, exponent 1. -/
theorem UpTo.start (t : ℝ) (ht : 0 < t) : UpTo t ((t : EReal), 1#32) 128 1 :=
  ⟨t, 1, ⟨rfl, rfl, ht, by norm_num⟩, le_rfl, le_rfl, .inr rfl, .inr rfl⟩

theorem UpTo.turn {t : ℝ} {p : ME} (h : UpTo t p 1 128) : DnTo t p 128 1 := by
  obtain ⟨r, z, h, z1, zA, lo, hi⟩ := h
  refine ⟨r, z, h, z1, zA, ?_, ?_⟩
  · rcases hi with hi | hi
    · exact .inl (le_trans (zpow_le_one_of_nonpos₀ (by norm_num) (by norm_num)) hi)
    · exact .inr hi
  · rcases lo with lo | lo
    · exact .inl (by simpa using lo)
    · exact .inr lo

theorem n64 : (FloatOps.ofBits (F := Ideal) .f32 0x1F800000#32) = (((2 : ℝ) ^ (-64 : ℤ) : ℝ) : EReal) :=
  ofBits_two _ 63 _ (by decide) (by norm_num) (by norm_num) (by norm_num)
theorem n63 : (FloatOps.ofBits (F := Ideal) .f32 0x20000000#32) = (((2 : ℝ) ^ (-63 : ℤ) : ℝ) : EReal) :=
  ofBits_two _ 64 _ (by decide) (by norm_num) (by norm_num) (by norm_num)
theorem n32 : (FloatOps.ofBits (F := Ideal) .f32 0x2F800000#32) = (((2 : ℝ) ^ (-32 : ℤ) : ℝ) : EReal) :=
  ofBits_two _ 95 _ (by decide) (by norm_num) (by norm_num) (by norm_num)
theorem n31 : (FloatOps.ofBits (F := Ideal) .f32 0x30000000#32) = (((2 : ℝ) ^ (-31 : ℤ) : ℝ) : EReal) :=
  ofBits_two _ 96 _ (by decide) (by norm_num) (by norm_num) (by norm_num)
theorem n16 : (FloatOps.ofBits (F := Ideal) .f32 0x37800000#32) = (((2 : ℝ) ^ (-16 : ℤ) : ℝ) : EReal) :=
  ofBits_two _ 111 _ (by decide) (by norm_num) (by norm_num) (by norm_num)
theorem n15 : (FloatOps.ofBits (F := Ideal) .f32 0x38000000#32) = (((2 : ℝ) ^ (-15 : ℤ) : ℝ) : EReal) :=
  ofBits_two _ 112 _ (by decide) (by norm_num) (by norm_num) (by norm_num)
theorem n8 : (FloatOps.ofBits (F := Ideal) .f32 0x3B800000#32) = (((2 : ℝ) ^ (-8 : ℤ) : ℝ) : EReal) :=
  ofBits_two _ 119 _ (by decide) (by norm_num) (by norm_num) (by norm_num)
theorem n7 : (FloatOps.ofBits (F := Ideal) .f32 0x3C000000#32) = (((2 : ℝ) ^ (-7 : ℤ) : ℝ) : EReal) :=
  ofBits_two _ 120 _ (by decide) (by norm_num) (by norm_num) (by norm_num)
theorem n4 : (FloatOps.ofBits (F := Ideal) .f32 0x3D800000#32) = (((2 : ℝ) ^ (-4 : ℤ) : ℝ) : EReal) :=
  ofBits_two _ 123 _ (by decide) (by norm_num) (by norm_num) (by norm_num)
theorem n3 : (FloatOps.ofBits (F := Ideal) .f32 0x3E000000#32) = (((2 : ℝ) ^ (-3 : ℤ) : ℝ) : EReal) :=
  ofBits_two _ 124 _ (by decide) (by norm_num) (by norm_num) (by norm_num)
theorem n2 : (FloatOps.ofBits (F := Ideal) .f32 0x3E800000#32) = (((2 : ℝ) ^ (-2 : ℤ) : ℝ) : EReal) :=
  ofBits_two _ 125 _ (by decide) (by norm_num) (by norm_num) (by norm_num)
theorem n1 : (FloatOps.ofBits (F := Ideal) .f32 0x3F000000#32) = (((2 : ℝ) ^ (-1 : ℤ) : ℝ) : EReal) :=
  ofBits_two _ 126 _ (by decide) (by norm_num) (by norm_num) (by norm_num)
theorem p0 : (FloatOps.ofBits (F := Ideal) .f32 0x3F800000#32) = (((2 : ℝ) ^ (0 : ℤ) : ℝ) : EReal) :=
  ofBits_two _ 127 _ (by decide) (by norm_num) (by norm_num) (by norm_num)
theorem p1 : (FloatOps.ofBits (F := Ideal) .f32 0x40000000#32) = (((2 : ℝ) ^ (1 : ℤ) : ℝ) : EReal) :=
  ofBits_two _ 128 _ (by decide) (by norm_num) (by norm_num) (by norm_num)
theorem p2 : (FloatOps.ofBits (F := Ideal) .f32 0x40800000#32) = (((2 : ℝ) ^ (2 : ℤ) : ℝ) : EReal) :=
  ofBits_two _ 129 _ (by decide) (by norm_num) (by norm_num) (by norm_num)
theorem p4 : (FloatOps.ofBits (F := Ideal) .f32 0x41800000#32) = (((2 : ℝ) ^ (4 : ℤ) : ℝ) : EReal) :=
  ofBits_two _ 131 _ (by decide) (by norm_num) (by norm_num) (by norm_num)
theorem p8 : (FloatOps.ofBits (F := Ideal) .f32 0x43800000#32) = (((2 : ℝ) ^ (8 : ℤ) : ℝ) : EReal) :=
  ofBits_two _ 135 _ (by decide) (by norm_num) (by norm_num) (by norm_num)
theorem p16 : (FloatOps.ofBits (F := Ideal) .f32 0x47800000#32) = (((2 : ℝ) ^ (16 : ℤ) : ℝ) : EReal) :=
  ofBits_two _ 143 _ (by decide) (by norm_num) (by norm_num) (by norm_num)
theorem p32 : (FloatOps.ofBits (F := Ideal) .f32 0x4F800000#32) = (((2 : ℝ) ^ (32 : ℤ) : ℝ) : EReal) :=
  ofBits_two _ 159 _ (by decide) (by norm_num) (by norm_num) (by norm_num)
theorem p64 : (FloatOps.ofBits (F := Ideal) .f32 0x5F800000#32) = (((2 : ℝ) ^ (64 : ℤ) : ℝ) : EReal) :=
  ofBits_two _ 191 _ (by decide) (by norm_num) (by norm_num) (by norm_num)
theorem to_u1 (t : ℝ) (ht : 0 < t) : UpTo t (u1 (t : EReal)) 64 65 := by
  unfold u1
  exact (UpTo.start t ht).step _ _ _ 64 (by norm_num) (by norm_num) p64 n64 (by decide) _ (by norm_num)
theorem to_u2 (t : ℝ) (ht : 0 < t) : UpTo t (u2 (t : EReal)) 32 97 := by
  unfold u2
  exact (to_u1 t ht).step _ _ _ 32 (by norm_num) (by norm_num) p32 n32 (by decide) _ (by norm_num)
theorem to_u3 (t : ℝ) (ht : 0 < t) : UpTo t (u3 (t : EReal)) 16 113 := by
  unfold u3
  exact (to_u2 t ht).step _ _ _ 16 (by norm_num) (by norm_num) p16 n16 (by decide) _ (by norm_num)
theorem to_u4 (t : ℝ) (ht : 0 < t) : UpTo t (u4 (t : EReal)) 8 121 := by
  unfold u4
  exact (to_u3 t ht).step _ _ _ 8 (by norm_num) (by norm_num) p8 n8 (by decide) _ (by norm_num)
theorem to_u5 (t : ℝ) (ht : 0 < t) : UpTo t (u5 (t : EReal)) 4 125 := by
  unfold u5
  exact (to_u4 t ht).step _ _ _ 4 (by norm_num) (by norm_num) p4 n4 (by decide) _ (by norm_num)
theorem to_u6 (t : ℝ) (ht : 0 < t) : UpTo t (u6 (t : EReal)) 2 127 := by
  unfold u6
  exact (to_u5 t ht).step _ _ _ 2 (by norm_num) (by norm_num) p2 n2 (by decide) _ (by norm_num)
theorem to_u7 (t : ℝ) (ht : 0 < t) : UpTo t (u7 (t : EReal)) 1 128 := by
  unfold u7
  exact (to_u6 t ht).step _ _ _ 1 (by norm_num) (by norm_num) p1 n1 (by decide) _ (by norm_num)
theorem to_d1 (t : ℝ) (ht : 0 < t) : DnTo t (d1 (t : EReal)) 64 (-63) := by
  unfold d1
  exact (to_u7 t ht).turn.step _ _ _ 64 (by norm_num) (by norm_num) (by simpa using n63) p64 (by decide) _ (by norm_num)
theorem to_d2 (t : ℝ) (ht : 0 < t) : DnTo t (d2 (t : EReal)) 32 (-95) := by
  unfold d2
  exact (to_d1 t ht).step _ _ _ 32 (by norm_num) (by norm_num) (by simpa using n31) p32 (by decide) _ (by norm_num)
theorem to_d3 (t : ℝ) (ht : 0 < t) : DnTo t (d3 (t : EReal)) 16 (-111) := by
  unfold d3
  exact (to_d2 t ht).step _ _ _ 16 (by norm_num) (by norm_num) (by simpa using n15) p16 (by decide) _ (by norm_num)
theorem to_d4 (t : ℝ) (ht : 0 < t) : DnTo t (d4 (t : EReal)) 8 (-119) := by
  unfold d4
  exact (to_d3 t ht).step _ _ _ 8 (by norm_num) (by norm_num) (by simpa using n7) p8 (by decide) _ (by norm_num)
theorem to_d5 (t : ℝ) (ht : 0 < t) : DnTo t (d5 (t : EReal)) 4 (-123) := by
  unfold d5
  exact (to_d4 t ht).step _ _ _ 4 (by norm_num) (by norm_num) (by simpa using n3) p4 (by decide) _ (by norm_num)
theorem to_d6 (t : ℝ) (ht : 0 < t) : DnTo t (d6 (t : EReal)) 2 (-125) := by
  unfold d6
  exact (to_d5 t ht).step _ _ _ 2 (by norm_num) (by norm_num) (by simpa using n1) p2 (by decide) _ (by norm_num)
theorem to_d7 (t : ℝ) (ht : 0 < t) : DnTo t (dn 0x3F800000#32 0x40000000#32 1#32 (d6 (t : EReal))) 1 (-126) := by
  exact (to_d6 t ht).step _ _ _ 1 (by norm_num) (by norm_num) (by simpa using p0) p1 (by decide) _ (by norm_num)

/-- What the search finds for a positive real `t`: an exponent `z` with `2 ^ (z-1) ≤ t < 2 ^ z`, or an end of the range. -/
theorem found_spec (t : ℝ) (ht : 0 < t) : ∃ z : ℤ, found (t : EReal) = BitVec.ofInt 32 z ∧ -126 ≤ z ∧ z ≤ 128 ∧
    ((2 : ℝ) ^ (z - 1) ≤ t ∨ z = -126) ∧ (t < (2 : ℝ) ^ z ∨ z = 128) := by
  have g7 := to_d7 t ht
  obtain ⟨r, z, h, zB, z128, lo, hi⟩ := g7
  have he : found (t : EReal) = BitVec.ofInt 32 z := by
    rw [← h.e, dn_snd, found]
  refine ⟨z, he, zB, z128, ?_, ?_⟩
  · rcases lo with lo | lo
    · left
      have : (1 : ℝ) ≤ r := by simpa using lo
      rw [h.eq]; exact le_mul_of_one_le_left (by positivity) this
    · exact .inr lo
  · rcases hi with hi | hi
    · left
      have : (2 : ℝ) ^ z = 2 * 2 ^ (z - 1) := by rw [zpow_sub₀ (by norm_num)]; norm_num; ring
      rw [h.eq, this]; exact mul_lt_mul_of_pos_right hi (by positivity)
    · exact .inr hi

/-! ### The two exponents agree -/

theorem clip_bits : ∀ n : Fin 255, IntOp.minsi 126#32 (IntOp.maxsi 4294967170#32 (BitVec.ofInt 32 ((n.val : ℤ) - 126))) =
    BitVec.ofInt 32 (min 126 (max (-126) ((n.val : ℤ) - 126))) := by decide +kernel

/-- Clipping the exponent as a machine integer is clipping it as an integer. -/
theorem clip_int (z : ℤ) (h1 : -126 ≤ z) (h2 : z ≤ 128) :
    IntOp.minsi 126#32 (IntOp.maxsi 4294967170#32 (BitVec.ofInt 32 z)) = BitVec.ofInt 32 (min 126 (max (-126) z)) := by
  have h := clip_bits ⟨(z + 126).toNat, by omega⟩
  have e : (((z + 126).toNat : ℕ) : ℤ) - 126 = z := by omega
  simpa only [e] using h

/-- The floor of the base-two logarithm, next to the exponent found. -/
theorem clip_floor (t : ℝ) (ht : 0 < t) (z : ℤ) (h1 : -126 ≤ z) (h2 : z ≤ 128)
    (lo : (2 : ℝ) ^ (z - 1) ≤ t ∨ z = -126) (hi : t < (2 : ℝ) ^ z ∨ z = 128) :
    min 126 (max (-126) (⌊Real.log t / Real.log 2⌋ + 1)) = min 126 (max (-126) z) := by
  have l2 : 0 < Real.log 2 := Real.log_pos (by norm_num)
  have lo' : (2 : ℝ) ^ (z - 1) ≤ t → z - 1 ≤ ⌊Real.log t / Real.log 2⌋ := fun h => by
    rw [Int.le_floor, le_div_iff₀ l2, ← Real.log_zpow]
    exact Real.log_le_log (by positivity) h
  have hi' : t < (2 : ℝ) ^ z → ⌊Real.log t / Real.log 2⌋ < z := fun h => by
    rw [Int.floor_lt, div_lt_iff₀ l2, ← Real.log_zpow]
    exact Real.log_lt_log ht h
  rcases lo with lo | lo <;> rcases hi with hi | hi
  · have := lo' lo; have := hi' hi; omega
  · have := lo' lo; omega
  · have := hi' hi; omega
  · omega

theorem ofBits_zero : (FloatOps.ofBits (F := Ideal) .f32 0x00000000#32) = 0 := by
  show Ideal.ofBits .f32 0x00000000#32 = 0
  simp [Ideal.ofBits, Ideal.ieee]
theorem ofBits_two' : (FloatOps.ofBits (F := Ideal) .f32 0x40000000#32) = ((2 : ℝ) : EReal) := by
  rw [ofBits_two _ 128 1 (by decide) (by norm_num) (by norm_num) (by norm_num)]; norm_num
theorem ofBits_one' : (FloatOps.ofBits (F := Ideal) .f32 0x3F800000#32) = ((1 : ℝ) : EReal) := by
  rw [ofBits_two _ 127 0 (by decide) (by norm_num) (by norm_num) (by norm_num)]; norm_num
theorem ofBits_126 : (FloatOps.ofBits (F := Ideal) .f32 0x42FC0000#32) = ((126 : ℝ) : EReal) := by
  show Ideal.ofBits .f32 0x42FC0000#32 = _
  simp [Ideal.ofBits, Ideal.ieee, -EReal.coe_mul]; norm_num
theorem ofBits_neg126 : (FloatOps.ofBits (F := Ideal) .f32 0xC2FC0000#32) = ((-126 : ℝ) : EReal) := by
  show Ideal.ofBits .f32 0xC2FC0000#32 = _
  simp [Ideal.ofBits, Ideal.ieee, -EReal.coe_mul, -EReal.coe_neg]; norm_num
/-- The f32 constant for 1/448 is a positive real. -/
theorem ofBits_over : ∃ k : ℝ, 0 < k ∧ (FloatOps.ofBits (F := Ideal) .f32 0x3B124925#32) = (k : EReal) := by
  refine ⟨(2 ^ 23 + 1198373 : ℕ) * (2 : ℝ) ^ (-32 : ℤ), by positivity, ?_⟩
  show Ideal.ofBits .f32 0x3B124925#32 = _
  simp [Ideal.ofBits, Ideal.ieee, -EReal.coe_mul]

/-- For a positive real both exponents are one integer between -126 and 126. -/
theorem exp0_real (t : ℝ) (ht : 0 < t) : ∃ z : ℤ, -126 ≤ z ∧ z ≤ 126 ∧ kExp0 (t : EReal) = BitVec.ofInt 32 z ∧
    rExp0 (t : EReal) = ((z : ℝ) : EReal) := by
  obtain ⟨z, hz, h1, h2, lo, hi⟩ := found_spec t ht
  have hp : proper (t : EReal) = 1 := by
    have a : ((t : EReal)) ≠ 0 := by exact_mod_cast ht.ne'
    show (BitVec.ofBool (decide ((t : EReal) = ⊤ ∨ (t : EReal) = ⊥)) ^^^ 1#1) &&& BitVec.ofBool (decide ((t : EReal) ≠ FloatOps.ofBits (F := Ideal) .f32 0x00000000#32)) = 1
    rw [ofBits_zero]; simp [a]
  refine ⟨min 126 (max (-126) z), by omega, by omega, ?_, ?_⟩
  · unfold kExp0; rw [hp, hz, clip_int z h1 h2]; rfl
  · unfold rExp0
    rw [hp, ofBits_two', ofBits_one', ofBits_126, ofBits_neg126]
    have lt : FloatOps.log (F := Ideal) (φ := .f32) (t : EReal) = ((Real.log t : ℝ) : EReal) := by
      show (if t ≤ 0 then ⊥ else (Real.log t : EReal)) = _
      rw [if_neg (not_le.mpr ht)]
    have l2 : FloatOps.log (F := Ideal) (φ := .f32) ((2 : ℝ) : EReal) = ((Real.log 2 : ℝ) : EReal) := by
      show (if (2 : ℝ) ≤ 0 then ⊥ else (Real.log 2 : EReal)) = _
      rw [if_neg (by norm_num)]
    have dv : FloatOps.divf (F := Ideal) (φ := .f32) ((Real.log t : ℝ) : EReal) ((Real.log 2 : ℝ) : EReal) = ((Real.log t / Real.log 2 : ℝ) : EReal) := by
      show Ideal.div _ _ = _
      have n0 : ((Real.log 2 : ℝ) : EReal) ≠ 0 := by exact_mod_cast (Real.log_pos (by norm_num : (1 : ℝ) < 2)).ne'
      rw [Ideal.div, if_neg n0, ← EReal.coe_inv, ← EReal.coe_mul, div_eq_mul_inv]
    have fl (x : ℝ) : FloatOps.floor (F := Ideal) (φ := .f32) (x : EReal) = ((⌊x⌋ : ℝ) : EReal) := rfl
    rw [select_true, lt, l2, dv, fl]
    simp only [Ideal.minimumf_def, Ideal.maximumf_def, Ideal.addf_def]
    show min ((126 : ℝ) : EReal) (max ((-126 : ℝ) : EReal) (((⌊Real.log t / Real.log 2⌋ : ℝ) : EReal) + ((1 : ℝ) : EReal))) = _
    rw [← clip_floor t ht z h1 h2 lo hi, ← EReal.coe_add, ← EReal.coe_strictMono.monotone.map_max, ← EReal.coe_strictMono.monotone.map_min]
    refine EReal.coe_eq_coe_iff.mpr ?_
    push_cast
    rfl

/-- The kernel's exponent and the reference's are one integer between -126 and 126, for any largest magnitude. -/
theorem exp_eq (a : EReal) (ha : 0 ≤ a) : ∃ z : ℤ, -126 ≤ z ∧ z ≤ 126 ∧ kExp a = BitVec.ofInt 32 z ∧ rExp a = ((z : ℝ) : EReal) := by
  obtain ⟨k, hk, ek⟩ := ofBits_over
  have ov : over a = a * (k : EReal) := by show a * FloatOps.ofBits (F := Ideal) .f32 0x3B124925#32 = _; rw [ek]
  have kz (h : a = 0) : kExp a = BitVec.ofInt 32 0 ∧ rExp a = (((0 : ℤ) : ℝ) : EReal) := by
    constructor
    · show Scalar.select (BitVec.ofBool (decide (a = FloatOps.ofBits (F := Ideal) .f32 0x00000000#32))) 0#32 (kExp0 (over a)) = _
      rw [ofBits_zero, select_one _ h]; rfl
    · show Scalar.select (BitVec.ofBool (decide (a = FloatOps.ofBits (F := Ideal) .f32 0x00000000#32))) (FloatOps.ofBits (F := Ideal) .f32 0x00000000#32) (rExp0 (over a)) = _
      rw [ofBits_zero, select_one _ h]; simp
  have kn (h : ¬ a = 0) : kExp a = kExp0 (over a) ∧ rExp a = rExp0 (over a) := by
    constructor
    · show Scalar.select (BitVec.ofBool (decide (a = FloatOps.ofBits (F := Ideal) .f32 0x00000000#32))) 0#32 (kExp0 (over a)) = _
      rw [ofBits_zero, select_zero _ h]
    · show Scalar.select (BitVec.ofBool (decide (a = FloatOps.ofBits (F := Ideal) .f32 0x00000000#32))) (FloatOps.ofBits (F := Ideal) .f32 0x00000000#32) (rExp0 (over a)) = _
      rw [ofBits_zero, select_zero _ h]
  by_cases h0 : a = 0
  · exact ⟨0, by norm_num, by norm_num, kz h0⟩
  rw [(kn h0).1, (kn h0).2, ov]
  induction a with
  | bot => simp at ha
  | top =>
    refine ⟨0, by norm_num, by norm_num, ?_⟩
    rw [EReal.top_mul_coe_of_pos hk]
    have hp : proper (⊤ : EReal) = 0 := by
      show (BitVec.ofBool (decide ((⊤ : EReal) = ⊤ ∨ (⊤ : EReal) = ⊥)) ^^^ 1#1) &&& _ = 0
      simp
    constructor
    · unfold kExp0; rw [hp]; rfl
    · unfold rExp0; rw [hp, ofBits_zero]; simp [Scalar.select]
  | coe r =>
    have hr : 0 < r := lt_of_le_of_ne (by exact_mod_cast ha) (fun h => h0 (by rw [← h]; rfl))
    rw [← EReal.coe_mul]
    exact exp0_real _ (by positivity)

theorem shl_bits : ∀ n : Fin 253, IntOp.shli .vector (IntOp.addi (BitVec.ofInt 32 ((n.val : ℤ) - 126)) 127#32) 23#32 =
    BitVec.ofNat 32 (n.val + 1) <<< 23 := by decide +kernel

/-- The float whose exponent bits are `z + 127` is `2 ^ z`. -/
theorem ofBits_shl (z : ℤ) (h1 : -126 ≤ z) (h2 : z ≤ 126) :
    (FloatOps.ofBits (F := Ideal) .f32 (IntOp.shli .vector (IntOp.addi (BitVec.ofInt 32 z) 127#32) 23#32)) = (((2 : ℝ) ^ z : ℝ) : EReal) := by
  have h := shl_bits ⟨(z + 126).toNat, by omega⟩
  have e : (((z + 126).toNat : ℕ) : ℤ) - 126 = z := by omega
  simp only [e] at h
  exact ofBits_two _ ((z + 126).toNat + 1) z h (by omega) (by omega) (by omega)

theorem exp2_int (z : ℤ) : FloatOps.exp2 (F := Ideal) (φ := .f32) ((z : ℝ) : EReal) = (((2 : ℝ) ^ z : ℝ) : EReal) := by
  show ((Real.rpow 2 (z : ℝ) : ℝ) : EReal) = _
  congr 1
  exact Real.rpow_intCast 2 z

/-- The two scales agree. -/
theorem scale_eq (a : EReal) (ha : 0 ≤ a) : kScale a = rScale a := by
  obtain ⟨z, h1, h2, hk, hr⟩ := exp_eq a ha
  unfold kScale rScale
  rw [hk, hr, ofBits_shl z h1 h2, exp2_int]

/-- The two inverse scales agree. -/
theorem inv_eq (a : EReal) (ha : 0 ≤ a) : kInv a = rInv a := by
  obtain ⟨z, h1, h2, hk, hr⟩ := exp_eq a ha
  unfold kInv rInv
  have n : IntOp.subi 0#32 (BitVec.ofInt 32 z) = BitVec.ofInt 32 (-z) := by
    show 0#32 - _ = _
    rw [BitVec.ofInt_neg]; simp
  have s : FloatOps.subf (F := Ideal) (φ := .f32) (FloatOps.ofBits (F := Ideal) .f32 0x00000000#32) ((z : ℝ) : EReal) = (((-z : ℤ) : ℝ) : EReal) := by
    rw [ofBits_zero]
    show (0 : EReal) - _ = _
    rw [zero_sub, ← EReal.coe_neg]; push_cast; rfl
  rw [hk, hr, n, s, ofBits_shl (-z) (by omega) (by omega), exp2_int]

end Cert.Exponent
end
-- ==== Proof.Spec.lean ====
/-
The mathematics of the two calls, entry by entry, over the extended reals: the rows' largest magnitudes, the hidden
entries of the gate/up product, and a quantised entry.
-/
module

public import proofs.«01_k».proof.Proof.Exponent
public import Idealize.ShloMosaic.Lib.Pointwise

@[expose] public section

noncomputable section

namespace Cert.Spec

open Idealize.ShloMosaic Cert.Exponent

/-- An array of two axes. -/
abbrev Arr (a b : ℕ) : Type := (⟨2, ![a, b]⟩ : Shape).Idx → EReal
/-- An array of one axis. -/
abbrev Row (b : ℕ) : Type := (⟨1, ![b]⟩ : Shape).Idx → EReal

/-- The magnitude of an entry. -/
abbrev mag (y : EReal) : EReal := FloatOps.absf (F := Ideal) (φ := .f32) y

/-- The largest magnitude among finitely many entries. -/
def top {n : ℕ} (f : Fin n → EReal) : EReal := (Finset.univ : Finset (Fin n)).sup fun k => mag (f k)

theorem mag_nonneg (y : EReal) : 0 ≤ mag y := by
  show (0 : EReal) ≤ max y (-y)
  rcases le_total 0 y with h | h
  · exact le_max_of_le_left h
  · exact le_max_of_le_right (by simpa using EReal.neg_le_neg_iff.mpr h)

theorem mag_le_top {n : ℕ} (f : Fin n → EReal) (k : Fin n) : mag (f k) ≤ top f :=
  Finset.le_sup (f := fun k => mag (f k)) (Finset.mem_univ k)

theorem top_nonneg {n : ℕ} (f : Fin (n + 1) → EReal) : 0 ≤ top f := (mag_nonneg _).trans (mag_le_top f 0)

/-- A fold of `max` from −∞ is the supremum. -/
theorem fold_max {n : ℕ} (f : Fin n → EReal) :
    Finset.fold max (Ideal.ofBits .f32 4286578688#32) f Finset.univ = (Finset.univ : Finset (Fin n)).sup f := by
  have h : Ideal.ofBits .f32 4286578688#32 = ⊥ := by simp [Ideal.ofBits, Ideal.ieee]
  rw [h]; rfl

/-- An entry `y` quantised by the inverse scale of a row whose largest magnitude is `a`: multiplied, then clipped to
    ±448. -/
def code (a y : EReal) : EReal :=
  min (Ideal.ofBits .f32 0x43E00000#32) (max (Ideal.ofBits .f32 0xC3E00000#32) (y * rInv a))

/-- One entry of the product of the codes and the weights, with both scales applied. -/
def prod (x : Arr 24576 7168) (s : Arr 24576 1) (w : Arr 7168 10240) (ws : Row 10240) (r : Fin 24576) (n : Fin 10240) : EReal :=
  (∑ k : Fin 7168, x (ix2 r k) * w (ix2 k n)) * s (ix2 r 0) * ws (ix1 n)

/-- One hidden entry: `silu gate * up`, the gate from column `c`, the up part from column `5120 + c`. -/
def hid (x : Arr 24576 7168) (s : Arr 24576 1) (w : Arr 7168 10240) (ws : Row 10240) (r : Fin 24576) (c : Fin 5120) : EReal :=
  let g := prod x s w ws r ⟨c.val, by omega⟩
  g * Ideal.logistic g * prod x s w ws r ⟨5120 + c.val, by omega⟩

end Cert.Spec
end
-- ==== Proof.QuantiseValue.lean ====
/-
The first call over the reals: what its body leaves in a block, and the entries of its two result arrays, from the
buffers' contents `V` when the call is entered.
-/
module

public import proofs.«01_k».proof.Proof.QuantiseRegion
public import proofs.«01_k».proof.Proof.Spec
public import Idealize.ShloMosaic.Lib.Pipeline.ValueKit
public import Idealize.ShloMosaic.Lib.Pointwise

@[expose] public section

set_option maxRecDepth 16384

noncomputable section

namespace Cert.KernelIdeal.Hand.Quantise

open Cert.KernelIdeal Cert.KernelIdeal.Gen Cert.KernelIdeal.Hand Idealize.ShloMosaic Idealize.ShloMosaic.TcCoe Idealize.ShloMosaic.Tactic Idealize.SL.Sem
open Idealize.ShloMosaic.Pipeline (Dat)
open Cert.Exponent Cert.Spec

/-! ### The exponent of a row, step by step -/

theorem s0 (x : Vec Ideal S256x7168 .bf16) (t : FVec Ideal S256x1 .f32) (h : k0_pay5 (F := Ideal) x = t) (i : S256x1.Idx) : k0_pay6 (F := Ideal) x i = over (t i) := by
  unfold k0_pay6
  rw [h]
  rfl
theorem m0 (x : Vec Ideal S256x7168 .bf16) (i : S256x1.Idx) : k0_pay6 (F := Ideal) x i = over (k0_pay5 (F := Ideal) x i) := s0 x _ rfl i
theorem s1 (x : Vec Ideal S256x7168 .bf16) (t : FVec Ideal S256x1 .f32) (h : k0_pay6 (F := Ideal) x = t) (i : S256x1.Idx) : k0_pay8 (F := Ideal) x i = upV 0x5F800000#32 0x1F800000#32 (t i) := by
  unfold k0_pay8 k0_pay7
  rw [h]
  rfl
theorem m1 (x : Vec Ideal S256x7168 .bf16) (i : S256x1.Idx) : k0_pay8 (F := Ideal) x i = (u1 (over (k0_pay5 (F := Ideal) x i))).1 := by
  refine (s1 x _ rfl i).trans ?_
  rw [m0, u1_m]
theorem s2 (x : Vec Ideal S256x7168 .bf16) (t : FVec Ideal S256x1 .f32) (h : k0_pay8 (F := Ideal) x = t) (i : S256x1.Idx) : k0_pay10 (F := Ideal) x i = upV 0x4F800000#32 0x2F800000#32 (t i) := by
  unfold k0_pay10 k0_pay9
  rw [h]
  rfl
theorem m2 (x : Vec Ideal S256x7168 .bf16) (i : S256x1.Idx) : k0_pay10 (F := Ideal) x i = (u2 (over (k0_pay5 (F := Ideal) x i))).1 := by
  refine (s2 x _ rfl i).trans ?_
  rw [m1, u2_m]
theorem s3 (x : Vec Ideal S256x7168 .bf16) (t : FVec Ideal S256x1 .f32) (h : k0_pay10 (F := Ideal) x = t) (i : S256x1.Idx) : k0_pay12 (F := Ideal) x i = upV 0x47800000#32 0x37800000#32 (t i) := by
  unfold k0_pay12 k0_pay11
  rw [h]
  rfl
theorem m3 (x : Vec Ideal S256x7168 .bf16) (i : S256x1.Idx) : k0_pay12 (F := Ideal) x i = (u3 (over (k0_pay5 (F := Ideal) x i))).1 := by
  refine (s3 x _ rfl i).trans ?_
  rw [m2, u3_m]
theorem s4 (x : Vec Ideal S256x7168 .bf16) (t : FVec Ideal S256x1 .f32) (h : k0_pay12 (F := Ideal) x = t) (i : S256x1.Idx) : k0_pay14 (F := Ideal) x i = upV 0x43800000#32 0x3B800000#32 (t i) := by
  unfold k0_pay14 k0_pay13
  rw [h]
  rfl
theorem m4 (x : Vec Ideal S256x7168 .bf16) (i : S256x1.Idx) : k0_pay14 (F := Ideal) x i = (u4 (over (k0_pay5 (F := Ideal) x i))).1 := by
  refine (s4 x _ rfl i).trans ?_
  rw [m3, u4_m]
theorem se4 (x : Vec Ideal S256x7168 .bf16) (t0 t1 t2 t3 : FVec Ideal S256x1 .f32) (h0 : k0_pay6 (F := Ideal) x = t0) (h1 : k0_pay8 (F := Ideal) x = t1)
    (h2 : k0_pay10 (F := Ideal) x = t2) (h3 : k0_pay12 (F := Ideal) x = t3) (i : S256x1.Idx) : k0_pay15 (F := Ideal) x i = (upE 0x43800000#32 8#32 (t3 i) (upE 0x47800000#32 16#32 (t2 i) (upE 0x4F800000#32 32#32 (t1 i) (upE 0x5F800000#32 64#32 (t0 i) 1#32)))) := by
  unfold k0_pay15 k0_pay7 k0_pay9 k0_pay11 k0_pay13
  rw [h0, h1, h2, h3]
  rfl
theorem e4 (x : Vec Ideal S256x7168 .bf16) (i : S256x1.Idx) : k0_pay15 (F := Ideal) x i = (u4 (over (k0_pay5 (F := Ideal) x i))).2 := by
  refine (se4 x _ _ _ _ rfl rfl rfl rfl i).trans ?_
  rw [m3, m2, m1, m0, u4_e, u3_e, u2_e, u1_e]
theorem s5 (v : FVec Ideal S256x1 .f32) (i : S256x1.Idx) : k0_pay17 (F := Ideal) v (Scalar.ofBits .f32 0x41800000#32 : Ideal .f32) i = upV 0x41800000#32 0x3D800000#32 (v i) := rfl
theorem m5 (x : Vec Ideal S256x7168 .bf16) (i : S256x1.Idx) : k0_pay17 (F := Ideal) (k0_pay14 (F := Ideal) x) (Scalar.ofBits .f32 0x41800000#32 : Ideal .f32) i = (u5 (over (k0_pay5 (F := Ideal) x i))).1 := by
  refine (s5 _ i).trans ?_
  rw [m4, u5_m]
theorem s6 (v : FVec Ideal S256x1 .f32) (i : S256x1.Idx) : k0_pay19 (F := Ideal) v (Scalar.ofBits .f32 0x41800000#32 : Ideal .f32) i = upV 0x40800000#32 0x3E800000#32 (k0_pay17 (F := Ideal) v (Scalar.ofBits .f32 0x41800000#32 : Ideal .f32) i) := rfl
theorem m6 (x : Vec Ideal S256x7168 .bf16) (i : S256x1.Idx) : k0_pay19 (F := Ideal) (k0_pay14 (F := Ideal) x) (Scalar.ofBits .f32 0x41800000#32 : Ideal .f32) i = (u6 (over (k0_pay5 (F := Ideal) x i))).1 := by
  refine (s6 _ i).trans ?_
  rw [m5, u6_m]
theorem s7 (v : FVec Ideal S256x1 .f32) (i : S256x1.Idx) : k0_pay21 (F := Ideal) v (Scalar.ofBits .f32 0x41800000#32 : Ideal .f32) i = upV 0x40000000#32 0x3F000000#32 (k0_pay19 (F := Ideal) v (Scalar.ofBits .f32 0x41800000#32 : Ideal .f32) i) := rfl
theorem m7 (x : Vec Ideal S256x7168 .bf16) (i : S256x1.Idx) : k0_pay21 (F := Ideal) (k0_pay14 (F := Ideal) x) (Scalar.ofBits .f32 0x41800000#32 : Ideal .f32) i = (u7 (over (k0_pay5 (F := Ideal) x i))).1 := by
  refine (s7 _ i).trans ?_
  rw [m6, u7_m]
theorem s8 (v : FVec Ideal S256x1 .f32) (i : S256x1.Idx) : k0_pay23 (F := Ideal) v (Scalar.ofBits .f32 0x41800000#32 : Ideal .f32) i = dnV 0x20000000#32 0x5F800000#32 (k0_pay21 (F := Ideal) v (Scalar.ofBits .f32 0x41800000#32 : Ideal .f32) i) := rfl
theorem m8 (x : Vec Ideal S256x7168 .bf16) (i : S256x1.Idx) : k0_pay23 (F := Ideal) (k0_pay14 (F := Ideal) x) (Scalar.ofBits .f32 0x41800000#32 : Ideal .f32) i = (d1 (over (k0_pay5 (F := Ideal) x i))).1 := by
  refine (s8 _ i).trans ?_
  rw [m7, d1_m]
theorem s9 (v : FVec Ideal S256x1 .f32) (i : S256x1.Idx) : k0_pay25 (F := Ideal) v (Scalar.ofBits .f32 0x41800000#32 : Ideal .f32) i = dnV 0x30000000#32 0x4F800000#32 (k0_pay23 (F := Ideal) v (Scalar.ofBits .f32 0x41800000#32 : Ideal .f32) i) := rfl
theorem m9 (x : Vec Ideal S256x7168 .bf16) (i : S256x1.Idx) : k0_pay25 (F := Ideal) (k0_pay14 (F := Ideal) x) (Scalar.ofBits .f32 0x41800000#32 : Ideal .f32) i = (d2 (over (k0_pay5 (F := Ideal) x i))).1 := by
  refine (s9 _ i).trans ?_
  rw [m8, d2_m]
theorem se9 (v : FVec Ideal S256x1 .f32) (w : IVec S256x1 32) (i : S256x1.Idx) : k0_pay26 (F := Ideal) v w (Scalar.ofBits .f32 0x41800000#32 : Ideal .f32) i = (dnE 0x30000000#32 32#32 (k0_pay23 (F := Ideal) v (Scalar.ofBits .f32 0x41800000#32 : Ideal .f32) i) (dnE 0x20000000#32 64#32 (k0_pay21 (F := Ideal) v (Scalar.ofBits .f32 0x41800000#32 : Ideal .f32) i) (upE 0x40000000#32 1#32 (k0_pay19 (F := Ideal) v (Scalar.ofBits .f32 0x41800000#32 : Ideal .f32) i) (upE 0x40800000#32 2#32 (k0_pay17 (F := Ideal) v (Scalar.ofBits .f32 0x41800000#32 : Ideal .f32) i) (upE 0x41800000#32 4#32 (v i) (w i)))))) := rfl
theorem e9 (x : Vec Ideal S256x7168 .bf16) (i : S256x1.Idx) : k0_pay26 (F := Ideal) (k0_pay14 (F := Ideal) x) (k0_pay15 (F := Ideal) x) (Scalar.ofBits .f32 0x41800000#32 : Ideal .f32) i = (d2 (over (k0_pay5 (F := Ideal) x i))).2 := by
  refine (se9 _ _ i).trans ?_
  rw [m8, m7, m6, m5, m4, e4, d2_e, d1_e, u7_e, u6_e, u5_e]
theorem pay27_eq (v : FVec Ideal S256x1 .f32) : k0_pay27 (F := Ideal) v (Scalar.ofBits .f32 0x41800000#32 : Ideal .f32) = cmpf .olt (k0_pay25 (F := Ideal) v (Scalar.ofBits .f32 0x41800000#32 : Ideal .f32)) (broadcast S256x1 (Scalar.ofBits .f32 0x38000000#32)) := rfl
theorem pay28_eq (v : FVec Ideal S256x1 .f32) : k0_pay28 (F := Ideal) v (Scalar.ofBits .f32 0x41800000#32 : Ideal .f32) = mulf (k0_pay25 (F := Ideal) v (Scalar.ofBits .f32 0x41800000#32 : Ideal .f32)) (broadcast S256x1 (Scalar.ofBits .f32 0x47800000#32)) := rfl

/-- The last five halving steps, from the value and the exponent before them. -/
def last5 (m : Ideal .f32) (e : BitVec 32) : BitVec 32 :=
  (dnE 0x3F800000#32 1#32 (dnV 0x3F000000#32 0x40800000#32 (dnV 0x3E000000#32 0x41800000#32 (dnV 0x3C000000#32 0x43800000#32 (dnV 0x38000000#32 0x47800000#32 m)))) (dnE 0x3F000000#32 2#32 (dnV 0x3E000000#32 0x41800000#32 (dnV 0x3C000000#32 0x43800000#32 (dnV 0x38000000#32 0x47800000#32 m))) (dnE 0x3E000000#32 4#32 (dnV 0x3C000000#32 0x43800000#32 (dnV 0x38000000#32 0x47800000#32 m)) (dnE 0x3C000000#32 8#32 (dnV 0x38000000#32 0x47800000#32 m) (dnE 0x38000000#32 16#32 m e)))))

theorem found_eq (t : Ideal .f32) : last5 (d2 t).1 (d2 t).2 = found t := by
  rw [found, d6_m, d6_e, d5_m, d5_e, d4_m, d4_e, d3_m, d3_e, last5]

/-- The exponent the body finds, before the two tests. -/
theorem pay30_at (v77 : FVec Ideal S256x1 .f32) (v80 : IVec S256x1 32) (v82 : IVec S256x1 1) (v84 : FVec Ideal S256x1 .f32)
    (h82 : v82 = cmpf .olt v77 (broadcast S256x1 (Scalar.ofBits .f32 0x38000000#32)))
    (h84 : v84 = mulf v77 (broadcast S256x1 (Scalar.ofBits .f32 0x47800000#32))) (i : S256x1.Idx) :
    k0_pay30 (F := Ideal) v77 v80 v82 v84 i = IntOp.minsi 126#32 (IntOp.maxsi 4294967170#32 (last5 (v77 i) (v80 i))) := by
  subst h82 h84
  rfl

/-- The exponent of a block's rows, before the test for a zero row. -/
def expTerm (x : Vec Ideal S256x7168 .bf16) : IVec S256x1 32 := k0_pay30 (F := Ideal) (k0_pay25 (F := Ideal) (k0_pay14 (F := Ideal) x) (Scalar.ofBits .f32 0x41800000#32 : Ideal .f32)) (k0_pay26 (F := Ideal) (k0_pay14 (F := Ideal) x) (k0_pay15 (F := Ideal) x) (Scalar.ofBits .f32 0x41800000#32 : Ideal .f32)) (k0_pay27 (F := Ideal) (k0_pay14 (F := Ideal) x) (Scalar.ofBits .f32 0x41800000#32 : Ideal .f32)) (k0_pay28 (F := Ideal) (k0_pay14 (F := Ideal) x) (Scalar.ofBits .f32 0x41800000#32 : Ideal .f32))

/-- The exponents of a block's rows. -/
def expo (x : Vec Ideal S256x7168 .bf16) : IVec S256x1 32 :=
  k0_pay1 (F := Ideal) (k0_pay5 (F := Ideal) x) (k0_pay29 (F := Ideal) (k0_pay6 (F := Ideal) x)) (expTerm x) (k0_pay31)

theorem expTerm_at (x : Vec Ideal S256x7168 .bf16) (i : S256x1.Idx) : expTerm x i = IntOp.minsi 126#32 (IntOp.maxsi 4294967170#32 (found (over (k0_pay5 (F := Ideal) x i)))) := by
  unfold expTerm
  refine (pay30_at _ _ _ _ (pay27_eq _) (pay28_eq _) i).trans ?_
  rw [m9, e9, found_eq]

theorem pay1_at (a t : FVec Ideal S256x1 .f32) (e : IVec S256x1 32) (i : S256x1.Idx) :
    k0_pay1 (F := Ideal) a (k0_pay29 (F := Ideal) t) e (k0_pay31) i
      = Scalar.select (FloatOps.cmpf .oeq (a i) (FloatOps.ofBits (F := Ideal) .f32 0x00000000#32)) 0#32 (Scalar.select (proper (t i)) (e i) 0#32) := rfl

/-- A row's exponent, from its largest magnitude. -/
theorem expo_at (x : Vec Ideal S256x7168 .bf16) (i : S256x1.Idx) : expo x i = kExp (k0_pay5 (F := Ideal) x i) := by
  rw [expo, pay1_at, expTerm_at, m0, kExp, kExp0]

theorem pay2_at (a : FVec Ideal S256x1 .f32) (p : IVec S256x1 1) (e z : IVec S256x1 32) (i : S256x1.Idx) :
    k0_pay2 (F := Ideal) a p e z i = FloatOps.ofBits (F := Ideal) .f32 (IntOp.shli .vector (IntOp.addi (k0_pay1 (F := Ideal) a p e z i) 127#32) 23#32) := rfl

theorem pay3_at (v : FVec Ideal S256x7168 .f32) (a : FVec Ideal S256x1 .f32) (p : IVec S256x1 1) (e z : IVec S256x1 32) (r : Fin 256) (k : Fin 7168) :
    k0_pay3 (F := Ideal) v a p e z (ix2 r k) = min (Ideal.ofBits .f32 0x43E00000#32) (max (Ideal.ofBits .f32 0xC3E00000#32)
      (v (ix2 r k) * FloatOps.ofBits (F := Ideal) .f32 (IntOp.shli .vector (IntOp.addi (IntOp.subi 0#32 (k0_pay1 (F := Ideal) a p e z (ix2 r 0))) 127#32) 23#32))) := by
  unfold k0_pay3
  generalize k0_pay1 (F := Ideal) a p e z = b
  pointwise
  try rfl

theorem pay4_at (x : Vec Ideal S256x7168 .bf16) (r : Fin 256) (k : Fin 7168) : k0_pay4 (F := Ideal) x (ix2 r k) = x (ix2 r k) := by
  pointwise [k0_pay4]

/-- A row's largest magnitude. -/
theorem pay5_at (x : Vec Ideal S256x7168 .bf16) (r : Fin 256) : k0_pay5 (F := Ideal) x (ix2 r 0) = top fun k : Fin 7168 => x (ix2 r k) := by
  pointwise [k0_pay5]
  rw [fold_max]
  unfold top
  simp only [pay4_at]

/-! ### What the body leaves in a block -/

theorem out2_at (x : Vec Ideal S256x7168 .bf16) (r : Fin 256) : out0_2 (F := Ideal) x (ix2 r 0) = rScale (top fun k : Fin 7168 => x (ix2 r k)) := by
  have h : out0_2 (F := Ideal) x (ix2 r 0) = k0_pay2 (F := Ideal) (k0_pay5 (F := Ideal) x) (k0_pay29 (F := Ideal) (k0_pay6 (F := Ideal) x)) (expTerm x) (k0_pay31) (ix2 r 0) := by
    unfold expTerm
    unfold out0_2 k0_pay36 k0_pay35 k0_pay34 k0_pay33 k0_pay32
    frame_out
  refine h.trans ((pay2_at _ _ _ _ _).trans ?_)
  rw [← expo, expo_at, ← scale_eq _ (top_nonneg _), pay5_at, kScale]

theorem out1_at (x : Vec Ideal S256x7168 .bf16) (r : Fin 256) (k : Fin 7168) :
    out0_1 (F := Ideal) x (ix2 r k) = code (top fun k : Fin 7168 => x (ix2 r k)) (x (ix2 r k)) := by
  have h : out0_1 (F := Ideal) x (ix2 r k) = k0_pay3 (F := Ideal) (k0_pay4 (F := Ideal) x) (k0_pay5 (F := Ideal) x) (k0_pay29 (F := Ideal) (k0_pay6 (F := Ideal) x)) (expTerm x) (k0_pay31) (ix2 r k) := by
    unfold expTerm
    unfold out0_1 k0_pay36 k0_pay35 k0_pay34 k0_pay33 k0_pay32
    frame_out
  refine h.trans ((pay3_at _ _ _ _ _ r k).trans ?_)
  rw [← expo, expo_at, pay4_at, pay5_at, code, ← inv_eq _ (top_nonneg _), kInv]

/-! ### The result arrays -/

variable (V : (c : Dev nD) → (b : Ref sig .tc) → Buf (Elt Ideal) ((c : Thread nD τ).loc b))

/-- The rows the call quantises. -/
abbrev aX (c : Dev nD) : Arr 24576 7168 := V c main_v0

theorem index0 (t : Fin cfg0.N) : win0_0.index t = ![t.val, 0] := by
  revert t; decide +kernel
theorem index1 (t : Fin cfg0.N) : win0_1.index t = ![t.val, 0] := by
  revert t; decide +kernel
theorem index2 (t : Fin cfg0.N) : win0_2.index t = ![t.val, 0] := by
  revert t; decide +kernel

/-- Row `r` of the block that point `t` reads. -/
theorem read0 (c : Dev nD) (t : Fin cfg0.N) (r : Fin 256) (k : Fin 7168) (q : Fin 24576) (hq : q.val = t.val * 256 + r.val) :
    iblk0 V c 0 t (ix2 r k) = aX V c (ix2 q k) := by
  have e0 : ((win0_0.blk t).view.emb (ix2 r k) 0).val = q.val := by
    blk_simp [index0]
    omega
  have e1 : ((win0_0.blk t).view.emb (ix2 r k) 1).val = k.val := by
    blk_simp [index0]
  show V c main_v0 ((win0_0.blk t).view.emb (ix2 r k)) = V c main_v0 (ix2 q k)
  refine congrArg (V c main_v0) (funext fun a => Fin.ext ?_)
  match a with
  | ⟨0, _⟩ => exact e0
  | ⟨1, _⟩ => exact e1

/-- The codes that point `t` leaves, each at its place `q` in the whole array. -/
theorem codes_entry (c : Dev nD) (t : Fin cfg0.N) (r : Fin 256) (k : Fin 7168) (q : S24576x7168.Idx)
    (h0 : (q 0).val = t.val * 256 + r.val) (h1 : (q 1).val = k.val) :
    out0_1 (iblk0 V c 0 t) (ix2 r k) = code (top fun k : Fin 7168 => aX V c (ix2 (q 0) k)) (aX V c (ix2 (q 0) (q 1))) := by
  have e1 : q 1 = k := Fin.ext h1
  refine (out1_at _ r k).trans ?_
  rw [e1]
  simp only [read0 V c t r _ (q 0) h0]

/-- The codes after the run. -/
theorem codesArr_at (c : Dev nD) : (dat0 V c).arrAt 1 cfg0.N
    = fun i : S24576x7168.Idx => code (top fun k : Fin 7168 => aX V c (ix2 (i 0) k)) (aX V c (ix2 (i 0) (i 1))) := by
  refine (dat0 V c).arrAt_eq_of_covers 1 _ (by decide +kernel) fun t hf y => ?_
  rw [after0_1]
  obtain ⟨r, k, rfl⟩ : ∃ (r : Fin 256) (k : Fin 7168), y = ix2 r k := ⟨y 0, y 1, (ix2_eta y).symm⟩
  blk_simp
  refine codes_entry V c t r k _ ?_ ?_
  · show ((win0_1.blk t).view.emb (ix2 r k) 0).val = _
    blk_simp [index1]
  · show ((win0_1.blk t).view.emb (ix2 r k) 1).val = _
    blk_simp [index1]

/-- The scales after the run. -/
theorem scaleArr_at (c : Dev nD) : (dat0 V c).arrAt 2 cfg0.N
    = fun i : S24576x1.Idx => rScale (top fun k : Fin 7168 => aX V c (ix2 (i 0) k)) := by
  refine (dat0 V c).arrAt_eq_of_covers 2 _ (by decide +kernel) fun t hf y => ?_
  rw [after0_2]
  obtain ⟨r, rfl⟩ : ∃ r : Fin 256, y = ix2 r 0 := ⟨y 0, by rw [show (0 : Fin 1) = y 1 from Subsingleton.elim _ _]; exact (ix2_eta y).symm⟩
  blk_simp
  have e0 : ((win0_2.blk t).view.emb (ix2 r 0) 0).val = t.val * 256 + r.val := by
    blk_simp [index2]
  refine (out2_at _ r).trans ?_
  simp only [read0 V c t r _ _ e0]

end Cert.KernelIdeal.Hand.Quantise

end
-- ==== Proof.GateupValue.lean ====
/-
The two result arrays of the second call after the run: row block `b` of each is what the last column step of that
row block stored.
-/
module

public import proofs.«01_k».proof.Proof.GateupFrame
public import Idealize.ShloMosaic.Lib.Pipeline.ValueKit
public import Idealize.ShloMosaic.Lib.Pointwise

@[expose] public section

set_option maxRecDepth 16384

noncomputable section

namespace Cert.KernelIdeal.Hand.Gateup

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The index of row `r`, column `k` of a block of codes. -/
abbrev at2 {a b : ℕ} (r : Fin a) (k : Fin b) : (⟨2, ![a, b]⟩ : Shape).Idx := ix2 r k

/-- The array of codes: row `i` is row `i % 512` of row block `i / 512`. -/
def codesArr (c : Dev nD) : Vec F S24576x5120 .fp8e4m3 := fun i =>
  codesOf V c ((i 0).val / 512) (ix2 (⟨(i 0).val % 512, Nat.mod_lt _ (by decide)⟩ : Fin 512) (i 1 : Fin 5120))

/-- The array of scales. -/
def scaleArr (c : Dev nD) : Vec F S24576x1 .f32 := fun i =>
  scaleOf V c ((i 0).val / 512) (ix2 (⟨(i 0).val % 512, Nat.mod_lt _ (by decide)⟩ : Fin 512) (i 1 : Fin 1))

theorem index6 : ∀ t : Fin cfg1.N, win1_6.index t = ![t.val / 10, 0] :=
  (by decide +kernel : ∀ t : Fin grid1.N, win1_6.index t = ![t.val / 10, 0])

theorem index7 : ∀ t : Fin cfg1.N, win1_7.index t = ![t.val / 10, 0] :=
  (by decide +kernel : ∀ t : Fin grid1.N, win1_7.index t = ![t.val / 10, 0])

theorem final6 (c : Dev nD) : (dat1 V c).arrAt 6 cfg1.N = codesArr V c := by
  refine (dat1 V c).arrAt_eq_of_covers 6 _ (by decide +kernel) fun t hf y => ?_
  blk_simp
  rw [after1_6]
  have hy0 : (y 0).val < 512 := (y 0).isLt
  have e0 : ((win1_6.blk t).view.emb y 0).val = t.val / 10 * 512 + (y 0).val := by blk_simp [index6 t]
  have e1 : ((win1_6.blk t).view.emb y 1).val = (y 1).val := by blk_simp [index6 t]
  unfold codesArr
  have hd : ((win1_6.blk t).view.emb y 0).val / 512 = t.val / 10 := by omega
  rw [hd]
  refine congrArg (codesOf V c (t.val / 10)) (funext fun a => Fin.ext ?_)
  match a with
  | ⟨0, _⟩ => show (y 0).val = ((win1_6.blk t).view.emb y 0).val % 512; omega
  | ⟨1, _⟩ => exact e1.symm

theorem final7 (c : Dev nD) : (dat1 V c).arrAt 7 cfg1.N = scaleArr V c := by
  refine (dat1 V c).arrAt_eq_of_covers 7 _ (by decide +kernel) fun t hf y => ?_
  blk_simp
  rw [after1_7]
  have hy0 : (y 0).val < 512 := (y 0).isLt
  have e0 : ((win1_7.blk t).view.emb y 0).val = t.val / 10 * 512 + (y 0).val := by blk_simp [index7 t]
  have e1 : ((win1_7.blk t).view.emb y 1).val = (y 1).val := by blk_simp [index7 t]
  unfold scaleArr
  have hd : ((win1_7.blk t).view.emb y 0).val / 512 = t.val / 10 := by omega
  rw [hd]
  refine congrArg (scaleOf V c (t.val / 10)) (funext fun a => Fin.ext ?_)
  match a with
  | ⟨0, _⟩ => show (y 0).val = ((win1_7.blk t).view.emb y 0).val % 512; omega
  | ⟨1, _⟩ => exact e1.symm

end Cert.KernelIdeal.Hand.Gateup

end
-- ==== Proof.GateupIdealValue.lean ====
/-
The second call over the reals, from the buffers' contents `V` when the call is entered: what a tile holds, what the
running maxima hold after the last column step, and the entries of the two result arrays.
-/
module

public import proofs.«01_k».proof.Proof.GateupValue
public import proofs.«01_k».proof.Proof.Spec
public import Idealize.ShloMosaic.Lib.Pipeline.ValueKit
public import Idealize.ShloMosaic.Lib.Pointwise

@[expose] public section

set_option maxRecDepth 16384

noncomputable section

namespace Cert.KernelIdeal.Hand.Gateup

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand Cert.Exponent Cert.Spec

variable (V : (c : Dev nD) → (b : Ref sig .tc) → Buf (Elt Ideal) ((c : Thread nD τ).loc b))

/-! ### Blocks as entries of the arguments -/

theorem index0 : ∀ t : Fin cfg1.N, win1_0.index t = ![t.val / 10, 0] :=
  (by decide +kernel : ∀ t : Fin grid1.N, win1_0.index t = ![t.val / 10, 0])
theorem index1 : ∀ t : Fin cfg1.N, win1_1.index t = ![t.val / 10, 0] :=
  (by decide +kernel : ∀ t : Fin grid1.N, win1_1.index t = ![t.val / 10, 0])
theorem index2 : ∀ t : Fin cfg1.N, win1_2.index t = ![0, t.val % 10] :=
  (by decide +kernel : ∀ t : Fin grid1.N, win1_2.index t = ![0, t.val % 10])
theorem index3 : ∀ t : Fin cfg1.N, win1_3.index t = ![0, t.val % 10 + 10] :=
  (by decide +kernel : ∀ t : Fin grid1.N, win1_3.index t = ![0, t.val % 10 + 10])
theorem index4 : ∀ t : Fin cfg1.N, win1_4.index t = ![0, t.val % 10] :=
  (by decide +kernel : ∀ t : Fin grid1.N, win1_4.index t = ![0, t.val % 10])
theorem index5 : ∀ t : Fin cfg1.N, win1_5.index t = ![0, t.val % 10 + 10] :=
  (by decide +kernel : ∀ t : Fin grid1.N, win1_5.index t = ![0, t.val % 10 + 10])

theorem lt480 (t : Fin cfg1.N) : t.val < 480 := lt_of_lt_of_eq t.isLt (by decide +kernel)

/-- The call's four arrays: the codes and scales of the rows, the weights, and the scales of the weight columns. -/
abbrev aX (c : Dev nD) : Arr 24576 7168 := V c main_v2_0
abbrev aS (c : Dev nD) : Arr 24576 1 := V c main_v2_1
abbrev aW (c : Dev nD) : Arr 7168 10240 := V c main_arg1
abbrev aU (c : Dev nD) : Arr 1 10240 := V c main_v1
/-- The scales of the weight columns, as an array of one axis. -/
def aV (c : Dev nD) : Row 10240 := fun i => aU V c (ix2 0 (i 0))

theorem read0 (c : Dev nD) (t : Fin cfg1.N) (r : Fin 512) (k : Fin 7168) :
    iblk1 V c 0 t (ix2 r k) = aX V c (ix2 (⟨t.val / 10 * 512 + r.val, by have := lt480 t; omega⟩ : Fin 24576) k) := by
  blk_point [iblk1, index0 t]
theorem read1 (c : Dev nD) (t : Fin cfg1.N) (r : Fin 512) :
    iblk1 V c 1 t (ix2 r 0) = aS V c (ix2 (⟨t.val / 10 * 512 + r.val, by have := lt480 t; omega⟩ : Fin 24576) 0) := by
  blk_point [iblk1, index1 t]
theorem read2 (c : Dev nD) (t : Fin cfg1.N) (k : Fin 7168) (q : Fin 512) :
    iblk1 V c 2 t (ix2 k q) = aW V c (ix2 k (⟨t.val % 10 * 512 + q.val, by have := lt480 t; omega⟩ : Fin 10240)) := by
  blk_point [iblk1, index2 t]
theorem read3 (c : Dev nD) (t : Fin cfg1.N) (k : Fin 7168) (q : Fin 512) :
    iblk1 V c 3 t (ix2 k q) = aW V c (ix2 k (⟨(t.val % 10 + 10) * 512 + q.val, by have := lt480 t; omega⟩ : Fin 10240)) := by
  blk_point [iblk1, index3 t]
theorem read4 (c : Dev nD) (t : Fin cfg1.N) (q : Fin 512) :
    iblk1 V c 4 t (ix2 0 q) = aV V c (ix1 (⟨t.val % 10 * 512 + q.val, by have := lt480 t; omega⟩ : Fin 10240)) := by
  show _ = aU V c (ix2 0 (⟨t.val % 10 * 512 + q.val, by have := lt480 t; omega⟩ : Fin 10240))
  blk_point [iblk1, index4 t]
theorem read5 (c : Dev nD) (t : Fin cfg1.N) (q : Fin 512) :
    iblk1 V c 5 t (ix2 0 q) = aV V c (ix1 (⟨(t.val % 10 + 10) * 512 + q.val, by have := lt480 t; omega⟩ : Fin 10240)) := by
  show _ = aU V c (ix2 0 (⟨(t.val % 10 + 10) * 512 + q.val, by have := lt480 t; omega⟩ : Fin 10240))
  blk_point [iblk1, index5 t]

/-! ### A tile -/

/-- The hidden entries of device `c`. -/
def hidM (c : Dev nD) (r : Fin 24576) (k : Fin 5120) : EReal := hid (aX V c) (aS V c) (aW V c) (aV V c) r k

/-- The tile of point `t` holds the hidden entries of its rows and columns. -/
theorem pay48_at (c : Dev nD) (t : Fin cfg1.N) (r q : Fin 512) :
    k1_pay48 (iblk1 V c 0 t) (iblk1 V c 1 t) (iblk1 V c 2 t) (iblk1 V c 3 t) (iblk1 V c 4 t) (iblk1 V c 5 t) (ix2 r q)
      = hidM V c ⟨t.val / 10 * 512 + r.val, by have := lt480 t; omega⟩ ⟨t.val % 10 * 512 + q.val, by omega⟩ := by
  pointwise [k1_pay48]
  simp only [read0, read1, read2, read3, read4, read5]
  unfold hidM hid prod
  have e : (⟨(t.val % 10 + 10) * 512 + q.val, by omega⟩ : Fin 10240) = ⟨5120 + (t.val % 10 * 512 + q.val), by omega⟩ := by rw [Fin.mk.injEq]; omega
  rw [e]

theorem ptOf_of_lt (n : ℕ) (h : n < 480) : (ptOf n).val = n := ptOf_val ⟨n, lt_of_lt_of_eq h (by decide +kernel)⟩ ▸ rfl

theorem tile_at (c : Dev nD) (b j : ℕ) (hb : b < 48) (hj : j < 10) (r q : Fin 512) :
    tileAt V c (10 * b + j) (ix3 0 r q) = hidM V c ⟨b * 512 + r.val, by omega⟩ ⟨j * 512 + q.val, by omega⟩ := by
  have v := ptOf_of_lt (10 * b + j) (by omega)
  unfold tileAt
  pointwise [k1_pay49]
  rw [pay48_at]
  congr 1 <;> (rw [Fin.mk.injEq, v]; omega)

/-! ### The running maxima -/

/-- Lane `l` after one column step holds the largest magnitude of the step's columns `l`, `128 + l`, `256 + l`, `384 + l`. -/
theorem lane_le (c : Dev nD) (b j : ℕ) (hb : b < 48) (hj : j < 10) (r : Fin 512) (l : Fin 128) (T : EReal) :
    laneAt V c (10 * b + j) (ix2 r l) ≤ T ↔
      ∀ g : Fin 4, mag (hidM V c ⟨b * 512 + r.val, by omega⟩ ⟨j * 512 + (128 * g.val + l.val), by omega⟩) ≤ T := by
  have v := ptOf_of_lt (10 * b + j) (by omega)
  have e (q : Fin 512) : k1_pay48 (iblk1 V c 0 (ptOf (10 * b + j))) (iblk1 V c 1 (ptOf (10 * b + j))) (iblk1 V c 2 (ptOf (10 * b + j)))
      (iblk1 V c 3 (ptOf (10 * b + j))) (iblk1 V c 4 (ptOf (10 * b + j))) (iblk1 V c 5 (ptOf (10 * b + j))) (ix2 r q)
      = hidM V c ⟨b * 512 + r.val, by omega⟩ ⟨j * 512 + q.val, by omega⟩ := by
    rw [pay48_at]
    congr 1 <;> (rw [Fin.mk.injEq, v]; omega)
  unfold laneAt laneMax
  pointwise [k1_pay50]
  simp only [e, max_le_iff]
  exact ⟨fun ⟨⟨⟨h0, h1⟩, h2⟩, h3⟩ => ⟨h0, h1, h2, h3⟩, fun ⟨h0, h1, h2, h3⟩ => ⟨⟨⟨h0, h1⟩, h2⟩, h3⟩⟩

theorem amax_le (c : Dev nD) (b : ℕ) (hb : b < 48) (r : Fin 512) (l : Fin 128) (T : EReal) : ∀ j : ℕ, j < 10 →
    (amaxUpTo V c b j (ix2 r l) ≤ T ↔ ∀ i : ℕ, i ≤ j → laneAt V c (10 * b + i) (ix2 r l) ≤ T)
  | 0, _ => by
    have e : amaxUpTo V c b 0 (ix2 r l) = laneAt V c (10 * b) (ix2 r l) := by unfold amaxUpTo; pointwise [k1_pay1]
    rw [e]
    exact ⟨fun h i hi => by obtain rfl : i = 0 := by omega
                            exact h, fun h => h 0 le_rfl⟩
  | j + 1, hj => by
    have e : amaxUpTo V c b (j + 1) (ix2 r l) = max (amaxUpTo V c b j (ix2 r l)) (laneAt V c (10 * b + (j + 1)) (ix2 r l)) := by
      rw [amaxUpTo]; pointwise [k1_pay2]
    rw [e, max_le_iff, amax_le c b hb r l T j (by omega)]
    exact ⟨fun h i hi => by rcases Nat.lt_or_ge i (j + 1) with h' | h'
                            · exact h.1 i (by omega)
                            · obtain rfl : i = j + 1 := by omega
                              exact h.2, fun h => ⟨fun i hi => h i (by omega), h (j + 1) le_rfl⟩⟩

/-- After the last column step the row's maximum over the lanes is its largest magnitude over all 5120 columns. -/
theorem rowTop (c : Dev nD) (b : ℕ) (hb : b < 48) (r : Fin 512) :
    k1_pay5 (amaxUpTo V c b 9) (ix2 r 0) = top (hidM V c ⟨b * 512 + r.val, by omega⟩) := by
  pointwise [k1_pay5]
  rw [fold_max]
  refine eq_of_forall_ge_iff fun T => ?_
  unfold top
  simp only [Finset.sup_le_iff, Finset.mem_univ, true_implies]
  constructor
  · intro h k
    have := (lane_le V c b (k.val / 512) hb (by omega) r ⟨k.val % 128, by omega⟩ T).mp
      ((amax_le V c b hb r ⟨k.val % 128, by omega⟩ T 9 (by norm_num)).mp (h _) (k.val / 512) (by omega)) ⟨k.val % 512 / 128, by omega⟩
    have e : (⟨k.val / 512 * 512 + (128 * (k.val % 512 / 128) + k.val % 128), by omega⟩ : Fin 5120) = k := Fin.ext (by show k.val / 512 * 512 + (128 * (k.val % 512 / 128) + k.val % 128) = k.val; omega)
    rw [← e]; exact this
  · intro h l
    exact (amax_le V c b hb r l T 9 (by norm_num)).mpr fun i hi => (lane_le V c b i hb (by omega) r l T).mpr fun g => h _

/-! ### The exponent of a row, step by step -/

theorem m0 (a : Vec Ideal S512x128 .f32) (i : S512x1.Idx) : k1_pay6 a i = over (k1_pay5 a i) := rfl
theorem m1 (a : Vec Ideal S512x128 .f32) (i : S512x1.Idx) : k1_pay8 a i = (u1 (over (k1_pay5 a i))).1 := by
  show upV 0x5F800000#32 0x1F800000#32 (k1_pay6 a i) = _
  rw [m0, u1_m]
theorem m2 (a : Vec Ideal S512x128 .f32) (i : S512x1.Idx) : k1_pay10 a i = (u2 (over (k1_pay5 a i))).1 := by
  show upV 0x4F800000#32 0x2F800000#32 (k1_pay8 a i) = _
  rw [m1, u2_m]
theorem m3 (a : Vec Ideal S512x128 .f32) (i : S512x1.Idx) : k1_pay12 a i = (u3 (over (k1_pay5 a i))).1 := by
  show upV 0x47800000#32 0x37800000#32 (k1_pay10 a i) = _
  rw [m2, u3_m]
theorem m4 (a : Vec Ideal S512x128 .f32) (i : S512x1.Idx) : k1_pay14 a i = (u4 (over (k1_pay5 a i))).1 := by
  show upV 0x43800000#32 0x3B800000#32 (k1_pay12 a i) = _
  rw [m3, u4_m]
theorem e4 (a : Vec Ideal S512x128 .f32) (i : S512x1.Idx) : k1_pay15 a i = (u4 (over (k1_pay5 a i))).2 := by
  show upE 0x43800000#32 8#32 (k1_pay12 a i) (upE 0x47800000#32 16#32 (k1_pay10 a i) (upE 0x4F800000#32 32#32 (k1_pay8 a i)
    (upE 0x5F800000#32 64#32 (k1_pay6 a i) 1#32))) = _
  rw [m3, m2, m1, m0, u4_e, u3_e, u2_e, u1_e]
theorem m5 (a : Vec Ideal S512x128 .f32) (i : S512x1.Idx) : k1_pay18 (k1_pay14 a) (k1_pay16 a) (k1_pay17 : FVec Ideal S512x1 .f32) i = (u5 (over (k1_pay5 a i))).1 := by
  show upV 0x41800000#32 0x3D800000#32 (k1_pay14 a i) = _
  rw [m4, u5_m]
theorem m6 (a : Vec Ideal S512x128 .f32) (i : S512x1.Idx) : k1_pay20 (k1_pay14 a) (k1_pay16 a) (k1_pay17 : FVec Ideal S512x1 .f32) i = (u6 (over (k1_pay5 a i))).1 := by
  show upV 0x40800000#32 0x3E800000#32 (k1_pay18 (k1_pay14 a) (k1_pay16 a) (k1_pay17 : FVec Ideal S512x1 .f32) i) = _
  rw [m5, u6_m]
theorem m7 (a : Vec Ideal S512x128 .f32) (i : S512x1.Idx) : k1_pay22 (k1_pay14 a) (k1_pay16 a) (k1_pay17 : FVec Ideal S512x1 .f32) i = (u7 (over (k1_pay5 a i))).1 := by
  show upV 0x40000000#32 0x3F000000#32 (k1_pay20 (k1_pay14 a) (k1_pay16 a) (k1_pay17 : FVec Ideal S512x1 .f32) i) = _
  rw [m6, u7_m]
theorem m8 (a : Vec Ideal S512x128 .f32) (i : S512x1.Idx) : k1_pay24 (k1_pay14 a) (k1_pay16 a) (k1_pay17 : FVec Ideal S512x1 .f32) i = (d1 (over (k1_pay5 a i))).1 := by
  show dnV 0x20000000#32 0x5F800000#32 (k1_pay22 (k1_pay14 a) (k1_pay16 a) (k1_pay17 : FVec Ideal S512x1 .f32) i) = _
  rw [m7, d1_m]
theorem m9 (a : Vec Ideal S512x128 .f32) (i : S512x1.Idx) : k1_pay26 (k1_pay14 a) (k1_pay16 a) (k1_pay17 : FVec Ideal S512x1 .f32) i = (d2 (over (k1_pay5 a i))).1 := by
  show dnV 0x30000000#32 0x4F800000#32 (k1_pay24 (k1_pay14 a) (k1_pay16 a) (k1_pay17 : FVec Ideal S512x1 .f32) i) = _
  rw [m8, d2_m]
theorem m10 (a : Vec Ideal S512x128 .f32) (i : S512x1.Idx) : k1_pay29 (k1_pay14 a) (k1_pay16 a) (k1_pay17 : FVec Ideal S512x1 .f32) i = (d3 (over (k1_pay5 a i))).1 := by
  show dnV 0x38000000#32 0x47800000#32 (k1_pay26 (k1_pay14 a) (k1_pay16 a) (k1_pay17 : FVec Ideal S512x1 .f32) i) = _
  rw [m9, d3_m]
theorem e9 (a : Vec Ideal S512x128 .f32) (i : S512x1.Idx) : k1_pay27 (k1_pay14 a) (k1_pay15 a) (k1_pay16 a) (k1_pay17 : FVec Ideal S512x1 .f32) i = (d2 (over (k1_pay5 a i))).2 := by
  show dnE 0x30000000#32 32#32 (k1_pay24 (k1_pay14 a) (k1_pay16 a) (k1_pay17 : FVec Ideal S512x1 .f32) i) (dnE 0x20000000#32 64#32 (k1_pay22 (k1_pay14 a) (k1_pay16 a) (k1_pay17 : FVec Ideal S512x1 .f32) i)
    (upE 0x40000000#32 1#32 (k1_pay20 (k1_pay14 a) (k1_pay16 a) (k1_pay17 : FVec Ideal S512x1 .f32) i) (upE 0x40800000#32 2#32 (k1_pay18 (k1_pay14 a) (k1_pay16 a) (k1_pay17 : FVec Ideal S512x1 .f32) i)
      (upE 0x41800000#32 4#32 (k1_pay14 a i) (k1_pay15 a i))))) = _
  rw [m8, m7, m6, m5, m4, e4, d2_e, d1_e, u7_e, u6_e, u5_e]
theorem e10 (a : Vec Ideal S512x128 .f32) (i : S512x1.Idx) : dnE 0x38000000#32 16#32 (k1_pay26 (k1_pay14 a) (k1_pay16 a) (k1_pay17 : FVec Ideal S512x1 .f32) i) (k1_pay27 (k1_pay14 a) (k1_pay15 a) (k1_pay16 a) (k1_pay17 : FVec Ideal S512x1 .f32) i) = (d3 (over (k1_pay5 a i))).2 := by
  rw [m9, e9, d3_e]

/-- The exponent the kernel finds for row `i`. -/
theorem exp_at (a : Vec Ideal S512x128 .f32) (i : S512x1.Idx) : expTerm a i = kExp0 (over (k1_pay5 a i)) := by
  have key : expTerm a i = Scalar.select (proper (k1_pay6 a i)) (IntOp.minsi 126#32 (IntOp.maxsi 4294967170#32
      (dnE 0x3F800000#32 1#32 (dnV 0x3F000000#32 0x40800000#32 (dnV 0x3E000000#32 0x41800000#32 (dnV 0x3C000000#32 0x43800000#32 (k1_pay29 (k1_pay14 a) (k1_pay16 a) (k1_pay17 : FVec Ideal S512x1 .f32) i))))
        (dnE 0x3F000000#32 2#32 (dnV 0x3E000000#32 0x41800000#32 (dnV 0x3C000000#32 0x43800000#32 (k1_pay29 (k1_pay14 a) (k1_pay16 a) (k1_pay17 : FVec Ideal S512x1 .f32) i)))
          (dnE 0x3E000000#32 4#32 (dnV 0x3C000000#32 0x43800000#32 (k1_pay29 (k1_pay14 a) (k1_pay16 a) (k1_pay17 : FVec Ideal S512x1 .f32) i))
            (dnE 0x3C000000#32 8#32 (k1_pay29 (k1_pay14 a) (k1_pay16 a) (k1_pay17 : FVec Ideal S512x1 .f32) i) (dnE 0x38000000#32 16#32 (k1_pay26 (k1_pay14 a) (k1_pay16 a) (k1_pay17 : FVec Ideal S512x1 .f32) i) (k1_pay27 (k1_pay14 a) (k1_pay15 a) (k1_pay16 a) (k1_pay17 : FVec Ideal S512x1 .f32) i)))))))) 0#32 := by
    unfold expTerm k1_pay31
    rfl
  rw [key, m10, e10, m0, kExp0, found, d6_m, d6_e, d5_m, d5_e, d4_m, d4_e]

theorem scaleBlk_at (a : Vec Ideal S512x128 .f32) (i : S512x1.Idx) : scaleBlk a i = kScale (k1_pay5 a i) := by
  show FloatOps.ofBits .f32 (IntOp.shli .vector (IntOp.addi (Scalar.select (FloatOps.cmpf .oeq (k1_pay5 a i) (FloatOps.ofBits (F := Ideal) .f32 0x00000000#32)) 0#32 (expTerm a i)) 127#32) 23#32) = _
  rw [exp_at, kScale, kExp]

theorem invBlk_at (a : Vec Ideal S512x128 .f32) (i : S512x1.Idx) : invBlk a i = kInv (k1_pay5 a i) := by
  show FloatOps.ofBits .f32 (IntOp.shli .vector (IntOp.addi (IntOp.subi 0#32 (Scalar.select (FloatOps.cmpf .oeq (k1_pay5 a i) (FloatOps.ofBits (F := Ideal) .f32 0x00000000#32)) 0#32 (expTerm a i))) 127#32) 23#32) = _
  rw [exp_at, kInv, kExp]

/-! ### The entries of the two results -/

/-- One entry of a code piece: the tile's entry times the inverse scale of its row, clipped. -/
theorem piece_at (c : Dev nD) (b j : ℕ) (hb : b < 48) (hj : j < 10) (r : Fin 512) (k : Fin 5120) (x0 x1 : Fin 512)
    (h0 : r.val = x0.val) (h1 : k.val = j * 512 + x1.val) :
    min (Ideal.ofBits .f32 1138753536#32) (max (Ideal.ofBits .f32 3286237184#32)
        (tileAt V c (10 * b + j) (ix3 0 x0 x1) * invBlk (amaxUpTo V c b 9) (ix2 x0 0)))
      = code (top (hidM V c ⟨b * 512 + r.val, by omega⟩)) (hidM V c ⟨b * 512 + r.val, by omega⟩ k) := by
  obtain rfl : r = x0 := Fin.ext h0
  have e : k = ⟨j * 512 + x1.val, by omega⟩ := Fin.ext h1
  rw [invBlk_at, rowTop V c b hb r, inv_eq _ (top_nonneg _), tile_at V c b j hb hj, e]
  rfl

/-- The entry of a row block of codes. -/
theorem codesOf_at (c : Dev nD) (b : ℕ) (hb : b < 48) (r : Fin 512) (k : Fin 5120) :
    codesOf V c b (ix2 r k) = code (top (hidM V c ⟨b * 512 + r.val, by omega⟩)) (hidM V c ⟨b * 512 + r.val, by omega⟩ k) := by
  have inv35 : k1_pay35 (F := Ideal) (expTerm (amaxUpTo V c b 9)) (k1_pay32 (k1_pay5 (amaxUpTo V c b 9))) = invBlk (amaxUpTo V c b 9) := by
    unfold invBlk; rfl
  unfold codesOf codesBlk codesL
  canon_tiles x h
  · pointwise [k1_pay4]
    exact piece_at V c b 9 hb (by norm_num) r k (x 0) (x 1) h0 (h1.trans (by omega))
  · pointwise [k1_pay3, k1_pay46, k1_pay47]
    exact piece_at V c b 8 hb (by norm_num) r k (x 0) (x 1) h0 (h1.trans (by omega))
  · pointwise [k1_pay45]
    exact piece_at V c b 7 hb (by norm_num) r k (x 0) (x 1) h0 (h1.trans (by omega))
  · pointwise [k1_pay44]
    exact piece_at V c b 6 hb (by norm_num) r k (x 0) (x 1) h0 (h1.trans (by omega))
  · pointwise [k1_pay43, k1_pay41, k1_pay42]
    exact piece_at V c b 5 hb (by norm_num) r k (x 0) (x 1) h0 (h1.trans (by omega))
  · pointwise [k1_pay40]
    exact piece_at V c b 4 hb (by norm_num) r k (x 0) (x 1) h0 (h1.trans (by omega))
  · pointwise [k1_pay39]
    exact piece_at V c b 3 hb (by norm_num) r k (x 0) (x 1) h0 (h1.trans (by omega))
  · pointwise [k1_pay38]
    exact piece_at V c b 2 hb (by norm_num) r k (x 0) (x 1) h0 (h1.trans (by omega))
  · unfold k1_pay37
    rw [inv35]
    pointwise
    exact piece_at V c b 1 hb (by norm_num) r k (x 0) (x 1) h0 (h1.trans (by omega))
  · unfold k1_pay36
    rw [inv35]
    pointwise
    exact piece_at V c b 0 hb (by norm_num) r k (x 0) (x 1) h0 (h1.trans (by omega))

/-- The entry of a row block of scales. -/
theorem scaleOf_at (c : Dev nD) (b : ℕ) (hb : b < 48) (r : Fin 512) :
    scaleOf V c b (ix2 r 0) = rScale (top (hidM V c ⟨b * 512 + r.val, by omega⟩)) := by
  unfold scaleOf
  rw [scaleBlk_at, rowTop V c b hb r, scale_eq _ (top_nonneg _)]

theorem row_split (r : Fin 24576) : (⟨r.val / 512 * 512 + r.val % 512, by omega⟩ : Fin 24576) = r :=
  Fin.ext (Nat.div_add_mod' _ _)

/-- An entry of the array of codes: the hidden entry, quantised by its row's largest magnitude. -/
theorem codesArr_at (c : Dev nD) (r : Fin 24576) (k : Fin 5120) :
    codesArr V c (ix2 r k) = code (top (hidM V c r)) (hidM V c r k) := by
  show codesOf V c (r.val / 512) (ix2 (⟨r.val % 512, Nat.mod_lt _ (by decide)⟩ : Fin 512) k) = _
  rw [codesOf_at V c _ (by omega)]
  simp only [row_split]

/-- An entry of the array of scales. -/
theorem scaleArr_at (c : Dev nD) (r : Fin 24576) : scaleArr V c (ix2 r 0) = rScale (top (hidM V c r)) := by
  show scaleOf V c (r.val / 512) (ix2 (⟨r.val % 512, Nat.mod_lt _ (by decide)⟩ : Fin 512) 0) = _
  rw [scaleOf_at V c _ (by omega)]
  simp only [row_split]

end Cert.KernelIdeal.Hand.Gateup

end
-- ==== Proof.ReferenceValue.lean ====
/-
The reference over the reals: the entries of its four result arrays.
-/
module

public import proofs.«01_k».proof.Proof.Gen.ReferenceIdeal.Frame
public import proofs.«01_k».proof.Proof.Spec
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.Tactic Idealize.SL.Sem
open Idealize.ShloMosaic.Pipeline (Dat)
open Cert.Exponent Cert.Spec

/-! ### The rows of the input, entry by entry -/

/-- The rows' largest magnitudes. -/
def rowMax (x : Vec Ideal S24576x7168 .bf16) : FVec Ideal S24576x1 .f32 :=
  shapeCast S24576x1 (multiReduction .maximumf [1] S24576 (absf (k0_pay2 (F := Ideal) x)) 0xFF800000#32 reduces_S24576x7168_S24576 (.inl rfl) rfl) shapeCasts_S24576_S24576x1

theorem pay2_at (x : Vec Ideal S24576x7168 .bf16) (r : Fin 24576) (k : Fin 7168) : k0_pay2 (F := Ideal) x (ix2 r k) = x (ix2 r k) := by
  pointwise [k0_pay2]

theorem rowMax_at (x : Vec Ideal S24576x7168 .bf16) (r : Fin 24576) : rowMax x (ix2 r 0) = top fun k : Fin 7168 => x (ix2 r k) := by
  pointwise [rowMax]
  rw [fold_max]
  unfold top
  simp only [pay2_at]

/-- A row's exponent, from its largest magnitude. -/
theorem pay3_gen (x : Vec Ideal S24576x7168 .bf16) (a : FVec Ideal S24576x1 .f32) (h : rowMax x = a) (i : S24576x1.Idx) :
    k0_pay3 (F := Ideal) x i = rExp (a i) := by
  unfold rowMax at h
  unfold k0_pay3
  rw [h]
  unfold rExp rExp0 over proper
  rfl

theorem pay3_at (x : Vec Ideal S24576x7168 .bf16) (r : Fin 24576) : k0_pay3 (F := Ideal) x (ix2 r 0) = rExp (top fun k : Fin 7168 => x (ix2 r k)) := by
  refine (pay3_gen x _ rfl _).trans ?_
  rw [rowMax_at]

theorem pay4_gen (x : Vec Ideal S24576x7168 .bf16) (e : FVec Ideal S24576x1 .f32) (h : k0_pay3 (F := Ideal) x = e) (i : S24576x1.Idx) :
    k0_pay4 (F := Ideal) x i = FloatOps.exp2 (e i) := by
  unfold k0_pay4
  rw [h]
  rfl

theorem pay5_gen (x : Vec Ideal S24576x7168 .bf16) (v : FVec Ideal S24576x7168 .f32) (hv : k0_pay2 (F := Ideal) x = v)
    (e : FVec Ideal S24576x1 .f32) (h : k0_pay3 (F := Ideal) x = e) (r : Fin 24576) (k : Fin 7168) :
    k0_pay5 (F := Ideal) x (ix2 r k) = min (Ideal.ofBits .f32 0x43E00000#32) (max (Ideal.ofBits .f32 0xC3E00000#32)
      (v (ix2 r k) * FloatOps.exp2 (F := Ideal) (φ := .f32) (FloatOps.subf (FloatOps.ofBits (F := Ideal) .f32 0x00000000#32) (e (ix2 r 0))))) := by
  unfold k0_pay5
  rw [h, hv]
  clear h hv
  pointwise

/-- A row's scale. -/
theorem pay4_at (x : Vec Ideal S24576x7168 .bf16) (r : Fin 24576) : k0_pay4 (F := Ideal) x (ix2 r 0) = rScale (top fun k : Fin 7168 => x (ix2 r k)) := by
  refine (pay4_gen x _ rfl _).trans ?_
  rw [pay3_at, rScale]

/-- A row's codes. -/
theorem pay5_at (x : Vec Ideal S24576x7168 .bf16) (r : Fin 24576) (k : Fin 7168) :
    k0_pay5 (F := Ideal) x (ix2 r k) = code (top fun k : Fin 7168 => x (ix2 r k)) (x (ix2 r k)) := by
  refine (pay5_gen x _ rfl _ rfl r k).trans ?_
  rw [pay2_at, pay3_at, code, rInv]

/-! ### The hidden entries, from any codes `x` and scales `s` -/

section
variable (x : Arr 24576 7168) (s : Arr 24576 1) (w : Arr 7168 10240) (v : Arr 1 10240)

/-- The scales of the weight columns, as an array of one axis. -/
abbrev flat : Row 10240 := fun i => v (ix2 0 (i 0))

theorem pay6_at (r : Fin 24576) (k : Fin 5120) : k0_pay6 (F := Ideal) s x w v (ix2 r k) = hid x s w (flat v) r k := by
  pointwise [k0_pay6]
  unfold hid prod flat
  rfl

/-- The largest magnitudes of the rows of hidden entries. -/
def hidMax : FVec Ideal S24576x1 .f32 :=
  shapeCast S24576x1 (multiReduction .maximumf [1] S24576 (absf (k0_pay6 (F := Ideal) s x w v)) 0xFF800000#32 reduces_S24576x5120_S24576 (.inl rfl) rfl) shapeCasts_S24576_S24576x1

theorem hidMax_at (r : Fin 24576) : hidMax x s w v (ix2 r 0) = top (hid x s w (flat v) r) := by
  pointwise [hidMax]
  rw [fold_max]
  unfold top
  simp only [pay6_at]

/-- A row's exponent, from its largest magnitude. -/
theorem pay7_gen (a : FVec Ideal S24576x1 .f32) (h : hidMax x s w v = a) (i : S24576x1.Idx) :
    k0_pay7 (F := Ideal) s x w v i = rExp (a i) := by
  unfold hidMax at h
  unfold k0_pay7
  rw [h]
  unfold rExp rExp0 over proper
  rfl

theorem pay7_at (r : Fin 24576) : k0_pay7 (F := Ideal) s x w v (ix2 r 0) = rExp (top (hid x s w (flat v) r)) := by
  refine (pay7_gen x s w v _ rfl _).trans ?_
  rw [hidMax_at]

theorem pay8_gen (e : FVec Ideal S24576x1 .f32) (h : k0_pay7 (F := Ideal) s x w v = e) (i : S24576x1.Idx) :
    k0_pay8 (F := Ideal) s x w v i = FloatOps.exp2 (e i) := by
  unfold k0_pay8
  rw [h]
  rfl

/-- A row's scale. -/
theorem pay8_at (r : Fin 24576) : k0_pay8 (F := Ideal) s x w v (ix2 r 0) = rScale (top (hid x s w (flat v) r)) := by
  refine (pay8_gen x s w v _ rfl _).trans ?_
  rw [pay7_at, rScale]

theorem pay9_gen (h : FVec Ideal S24576x5120 .f32) (hh : k0_pay6 (F := Ideal) s x w v = h)
    (e : FVec Ideal S24576x1 .f32) (he : k0_pay7 (F := Ideal) s x w v = e) (r : Fin 24576) (k : Fin 5120) :
    k0_pay1 (F := Ideal) (k0_pay9 (F := Ideal) s x w v) (ix2 r k) = min (Ideal.ofBits .f32 0x43E00000#32) (max (Ideal.ofBits .f32 0xC3E00000#32)
      (h (ix2 r k) * FloatOps.exp2 (F := Ideal) (φ := .f32) (FloatOps.subf (FloatOps.ofBits (F := Ideal) .f32 0x00000000#32) (e (ix2 r 0))))) := by
  unfold k0_pay9 k0_pay1
  rw [hh, he]
  clear hh he
  pointwise

/-- A row's codes. -/
theorem pay9_at (r : Fin 24576) (k : Fin 5120) :
    k0_pay1 (F := Ideal) (k0_pay9 (F := Ideal) s x w v) (ix2 r k) = code (top (hid x s w (flat v) r)) (hid x s w (flat v) r k) := by
  refine (pay9_gen x s w v _ rfl _ rfl r k).trans ?_
  rw [pay6_at, pay7_at, code, rInv]

end

/-! ### What the body leaves -/

section
variable (x : Arr 24576 7168) (w : Arr 7168 10240) (v : Arr 1 10240)

/-- The rows' codes and scales. -/
def cX : Arr 24576 7168 := fun i => code (top fun k : Fin 7168 => x (ix2 (i 0) k)) (x (ix2 (i 0) (i 1)))
def sX : Arr 24576 1 := fun i => rScale (top fun k : Fin 7168 => x (ix2 (i 0) k))

theorem pay5_eq : k0_pay5 (F := Ideal) x = cX x := by
  funext i
  obtain ⟨r, k, rfl⟩ : ∃ (r : Fin 24576) (k : Fin 7168), i = ix2 r k := ⟨i 0, i 1, (ix2_eta i).symm⟩
  exact pay5_at x r k
theorem pay4_eq : k0_pay4 (F := Ideal) x = sX x := by
  funext i
  obtain ⟨r, rfl⟩ : ∃ r : Fin 24576, i = ix2 r 0 := ⟨i 0, by rw [show (0 : Fin 1) = i 1 from Subsingleton.elim _ _]; exact (ix2_eta i).symm⟩
  exact pay4_at x r

theorem out3_at (r : Fin 24576) : out0_3 (F := Ideal) x w v (ix2 r 0) = rScale (top (hid (cX x) (sX x) w (flat v) r)) := by
  have h : out0_3 (F := Ideal) x w v (ix2 r 0) = k0_pay8 (F := Ideal) (k0_pay4 (F := Ideal) x) (k0_pay5 (F := Ideal) x) w v (ix2 r 0) := by
    unfold out0_3 k0_pay10 k0_pay11
    frame_out
  rw [h, pay5_eq, pay4_eq, pay8_at]

theorem out4_at (r : Fin 24576) (k : Fin 5120) : out0_4 (F := Ideal) x w v (ix2 r k)
    = code (top (hid (cX x) (sX x) w (flat v) r)) (hid (cX x) (sX x) w (flat v) r k) := by
  have h : out0_4 (F := Ideal) x w v (ix2 r k) = k0_pay1 (F := Ideal) (k0_pay9 (F := Ideal) (k0_pay4 (F := Ideal) x) (k0_pay5 (F := Ideal) x) w v) (ix2 r k) := by
    unfold out0_4 k0_pay10 k0_pay11
    frame_out
  rw [h, pay5_eq, pay4_eq, pay9_at]

theorem out5_at (r : Fin 24576) (k : Fin 7168) : out0_5 (F := Ideal) x w v (ix2 r k) = cX x (ix2 r k) := by
  have h : out0_5 (F := Ideal) x w v (ix2 r k) = k0_pay5 (F := Ideal) x (ix2 r k) := by
    unfold out0_5 k0_pay11
    frame_out
  rw [h, pay5_eq]

theorem out6_at (r : Fin 24576) : out0_6 (F := Ideal) x w v (ix2 r 0) = sX x (ix2 r 0) := by
  have h : out0_6 (F := Ideal) x w v (ix2 r 0) = k0_pay4 (F := Ideal) x (ix2 r 0) := by
    unfold out0_6 k0_pay10
    frame_out
  rw [h, pay4_eq]

end

/-! ### The result arrays -/

variable (m : (ℓ : Loc nD τ sig) → Buf (Elt Ideal) ℓ) (ρ : Dev nD → PrngReg)

/-- The three arguments as arrays of two axes. -/
abbrev aX (c : Dev nD) : Arr 24576 7168 := V m c main_v0
abbrev aW (c : Dev nD) : Arr 7168 10240 := V m c main_arg1
abbrev aU (c : Dev nD) : Arr 1 10240 := V m c main_v1

theorem aX_eq (c : Dev nD) : aX m c = shapeCast S24576x7168 (m ((c : Thread nD τ).loc main_arg0)) shapeCasts_S4x6144x7168_S24576x7168 := by
  show V m c main_v0 = _
  entry_read
  rfl
theorem aU_eq (c : Dev nD) : aU m c = shapeCast S1x10240 (m ((c : Thread nD τ).loc main_arg2)) shapeCasts_S10240_S1x10240 := by
  show V m c main_v1 = _
  entry_read
  rfl
theorem aW_eq (c : Dev nD) : aW m c = m ((c : Thread nD τ).loc main_arg1) := V_main_arg1 m c

theorem index0 : win0_0.index t0_0 = ![0, 0] := by decide +kernel
theorem index1 : win0_1.index t0_0 = ![0, 0] := by decide +kernel
theorem index2 : win0_2.index t0_0 = ![0, 0] := by decide +kernel

theorem read0 (c : Dev nD) : iblk m c 0 t0_0 = aX m c := by
  funext i
  obtain ⟨r, k, rfl⟩ : ∃ (r : Fin 24576) (k : Fin 7168), i = ix2 r k := ⟨i 0, i 1, (ix2_eta i).symm⟩
  show V m c main_v0 ((win0_0.blk t0_0).view.emb (ix2 r k)) = V m c main_v0 (ix2 r k)
  refine congrArg (V m c main_v0) (funext fun a => Fin.ext ?_)
  match a with
  | ⟨0, _⟩ => show ((win0_0.blk t0_0).view.emb (ix2 r k) 0).val = r.val; blk_simp [index0]
  | ⟨1, _⟩ => show ((win0_0.blk t0_0).view.emb (ix2 r k) 1).val = k.val; blk_simp [index0]
theorem read1 (c : Dev nD) : iblk m c 1 t0_0 = aW m c := by
  funext i
  obtain ⟨r, k, rfl⟩ : ∃ (r : Fin 7168) (k : Fin 10240), i = ix2 r k := ⟨i 0, i 1, (ix2_eta i).symm⟩
  show V m c main_arg1 ((win0_1.blk t0_0).view.emb (ix2 r k)) = V m c main_arg1 (ix2 r k)
  refine congrArg (V m c main_arg1) (funext fun a => Fin.ext ?_)
  match a with
  | ⟨0, _⟩ => show ((win0_1.blk t0_0).view.emb (ix2 r k) 0).val = r.val; blk_simp [index1]
  | ⟨1, _⟩ => show ((win0_1.blk t0_0).view.emb (ix2 r k) 1).val = k.val; blk_simp [index1]
theorem read2 (c : Dev nD) : iblk m c 2 t0_0 = aU m c := by
  funext i
  obtain ⟨r, k, rfl⟩ : ∃ (r : Fin 1) (k : Fin 10240), i = ix2 r k := ⟨i 0, i 1, (ix2_eta i).symm⟩
  show V m c main_v1 ((win0_2.blk t0_0).view.emb (ix2 r k)) = V m c main_v1 (ix2 r k)
  refine congrArg (V m c main_v1) (funext fun a => Fin.ext ?_)
  match a with
  | ⟨0, _⟩ => show ((win0_2.blk t0_0).view.emb (ix2 r k) 0).val = r.val; blk_simp [index2]
  | ⟨1, _⟩ => show ((win0_2.blk t0_0).view.emb (ix2 r k) 1).val = k.val; blk_simp [index2]

/-- The hidden entries of device `c`. -/
def hidM (c : Dev nD) : Fin 24576 → Fin 5120 → EReal := hid (cX (aX m c)) (sX (aX m c)) (aW m c) (flat (aU m c))

/-- The scales of the hidden rows after the run. -/
theorem scaleH (c : Dev nD) : (dats m 0 c).arrAt 3 cfg0.N = fun i : S24576x1.Idx => rScale (top (hidM m c (i 0))) := by
  refine (dats m 0 c).arrAt_eq_of_after_last 3 t0_0 (by decide +kernel) _ fun j => ?_
  blk_simp
  rw [after0_3, read0, read1, read2]
  obtain ⟨r, rfl⟩ : ∃ r : Fin 24576, j = ix2 r 0 := ⟨j 0, by rw [show (0 : Fin 1) = j 1 from Subsingleton.elim _ _]; exact (ix2_eta j).symm⟩
  exact out3_at _ _ _ r

/-- The codes of the hidden rows after the run. -/
theorem codesH (c : Dev nD) : (dats m 0 c).arrAt 4 cfg0.N = fun i : S24576x5120.Idx => code (top (hidM m c (i 0))) (hidM m c (i 0) (i 1)) := by
  refine (dats m 0 c).arrAt_eq_of_after_last 4 t0_0 (by decide +kernel) _ fun j => ?_
  blk_simp
  rw [after0_4, read0, read1, read2]
  obtain ⟨r, k, rfl⟩ : ∃ (r : Fin 24576) (k : Fin 5120), j = ix2 r k := ⟨j 0, j 1, (ix2_eta j).symm⟩
  exact out4_at _ _ _ r k

/-- The codes of the input rows after the run. -/
theorem codesX (c : Dev nD) : (dats m 0 c).arrAt 5 cfg0.N = cX (aX m c) := by
  refine (dats m 0 c).arrAt_eq_of_after_last 5 t0_0 (by decide +kernel) _ fun j => ?_
  blk_simp
  rw [after0_5, read0, read1, read2]
  obtain ⟨r, k, rfl⟩ : ∃ (r : Fin 24576) (k : Fin 7168), j = ix2 r k := ⟨j 0, j 1, (ix2_eta j).symm⟩
  exact out5_at _ _ _ r k

/-- The scales of the input rows after the run. -/
theorem scaleX (c : Dev nD) : (dats m 0 c).arrAt 6 cfg0.N = sX (aX m c) := by
  refine (dats m 0 c).arrAt_eq_of_after_last 6 t0_0 (by decide +kernel) _ fun j => ?_
  blk_simp
  rw [after0_6, read0, read1, read2]
  obtain ⟨r, rfl⟩ : ∃ r : Fin 24576, j = ix2 r 0 := ⟨j 0, by rw [show (0 : Fin 1) = j 1 from Subsingleton.elim _ _]; exact (ix2_eta j).symm⟩
  exact out6_at _ _ _ r

/-- The reference runs, leaves those four arrays, and leaves its arguments as they were. -/
theorem run_blocks : θ_run defs (onTc (τ := τ) (main (F := Ideal))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_v2_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, (h.1 c).1 5, (h.1 c).1 6, h.2 c⟩)
    (θ_run_and (run_main m ρ) (unchanged m ρ))

end Cert.ReferenceIdeal.Hand

end
-- ==== Proof.WholeEquation.lean ====
/-
The equation of the whole kernel and its reference over the reals: from equal arguments both runs leave the same four
arrays.
-/
module

public import proofs.«01_k».proof.Defs
public import proofs.«01_k».proof.Proof.WholeRun
public import proofs.«01_k».proof.Proof.QuantiseValue
public import proofs.«01_k».proof.Proof.GateupIdealValue
public import proofs.«01_k».proof.Proof.ReferenceValue

@[expose] public section

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem
open Cert.Spec Cert.Exponent
open Cert.ReferenceIdeal.Hand (cX sX flat)

variable (m : (ℓ : Loc nD τ sig) → Buf (Elt Ideal) ℓ) (ρ : Dev nD → PrngReg)

/-! ### What the two calls read -/

/-- The first call reads the first argument as an array of two axes. -/
theorem rows_eq (c : Dev nD) : Quantise.aX (V1 m ρ) c
    = shapeCast S24576x7168 (m ((c : Thread nD τ).loc main_arg0)) shapeCasts_S4x6144x7168_S24576x7168 := by
  show StableHlo.after hostOps0 (W0 m ρ c) (Proc.devRef .tc main_v0) = _
  entry_read
  rfl

/-- The first call leaves the rows' codes and scales. -/
theorem codesX (c : Dev nD) : (dat0 (V1 m ρ) c).arrAt 1 cfg0.N = cX (Quantise.aX (V1 m ρ) c) :=
  Quantise.codesArr_at (V1 m ρ) c
theorem scaleX (c : Dev nD) : (dat0 (V1 m ρ) c).arrAt 2 cfg0.N = sX (Quantise.aX (V1 m ρ) c) :=
  Quantise.scaleArr_at (V1 m ρ) c

/-- The second call reads those codes and scales, and the weights and the weight columns' scales as launched. -/
theorem aX_eq (c : Dev nD) : Gateup.aX (V2 m ρ) c = cX (Quantise.aX (V1 m ρ) c) := (W2_main_v2_0 m ρ c).trans (codesX m ρ c)
theorem aS_eq (c : Dev nD) : Gateup.aS (V2 m ρ) c = sX (Quantise.aX (V1 m ρ) c) := (W2_main_v2_1 m ρ c).trans (scaleX m ρ c)
theorem aW_eq (c : Dev nD) : Gateup.aW (V2 m ρ) c = m ((c : Thread nD τ).loc main_arg1) := W2_args m ρ c main_arg1 (by decide)
theorem aU_eq (c : Dev nD) : Gateup.aU (V2 m ρ) c
    = shapeCast S1x10240 (m ((c : Thread nD τ).loc main_arg2)) shapeCasts_S10240_S1x10240 := by
  refine (W2_of m ρ c main_v1 (by decide +kernel)).trans ?_
  show StableHlo.after hostOps0 (W0 m ρ c) (Proc.devRef .tc main_v1) = _
  entry_read
  rfl

end Cert.KernelIdeal.Hand

namespace Cert.WholeEquation

open Idealize.ShloMosaic Idealize.ShloMosaic.TcCoe Idealize.SL.Sem
open Cert.Spec Cert.Exponent

/-- From memories that agree on the three arguments, the kernel and the reference both run, leave their arguments as they
    were, and leave equal codes and equal scales, of the rows and of the hidden rows. -/
theorem algebraic : Cert.algebraic_KernelIdeal_ReferenceIdeal := by
  intro m g m' g' _ hm
  have rows : ∀ c : Dev Cert.KernelIdeal.nD, Cert.ReferenceIdeal.Hand.aX m' c
      = Cert.KernelIdeal.Hand.Quantise.aX (Cert.KernelIdeal.Hand.V1 m g) c := by
    intro c
    rw [Cert.KernelIdeal.Hand.rows_eq, Cert.ReferenceIdeal.Hand.aX_eq, (hm c).1]
  have hid_eq : ∀ c : Dev Cert.KernelIdeal.nD, Cert.ReferenceIdeal.Hand.hidM m' c
      = Cert.KernelIdeal.Hand.Gateup.hidM (Cert.KernelIdeal.Hand.V2 m g) c := by
    intro c
    funext r k
    unfold Cert.ReferenceIdeal.Hand.hidM Cert.KernelIdeal.Hand.Gateup.hidM Cert.KernelIdeal.Hand.Gateup.aV
    rw [Cert.KernelIdeal.Hand.aX_eq, Cert.KernelIdeal.Hand.aS_eq, Cert.KernelIdeal.Hand.aW_eq, Cert.KernelIdeal.Hand.aU_eq,
      rows c, Cert.ReferenceIdeal.Hand.aW_eq, Cert.ReferenceIdeal.Hand.aU_eq, (hm c).2.1, (hm c).2.2]
  refine ⟨_, _, _, _, Cert.KernelIdeal.Hand.run_arrays m g, ?_⟩
  refine (θ_run _ _ _).mono (fun r h c => ?_) (Cert.ReferenceIdeal.Hand.run_blocks m' g')
  obtain ⟨h3, h4, h5, h6, ha⟩ := h c
  refine ⟨h3.trans ((Cert.ReferenceIdeal.Hand.scaleH m' c).trans ?_), h4.trans ((Cert.ReferenceIdeal.Hand.codesH m' c).trans ?_),
    h5.trans ((Cert.ReferenceIdeal.Hand.codesX m' c).trans ?_), h6.trans ((Cert.ReferenceIdeal.Hand.scaleX m' c).trans ?_), ha⟩
  · rw [hid_eq c]
    refine Eq.trans ?_ (Cert.KernelIdeal.Hand.Gateup.final7 (Cert.KernelIdeal.Hand.V2 m g) c).symm
    funext i
    obtain ⟨r, rfl⟩ : ∃ r : Fin 24576, i = ix2 r 0 :=
      ⟨i 0, by rw [show (0 : Fin 1) = i 1 from Subsingleton.elim _ _]; exact (ix2_eta i).symm⟩
    exact (Cert.KernelIdeal.Hand.Gateup.scaleArr_at (Cert.KernelIdeal.Hand.V2 m g) c r).symm
  · rw [hid_eq c]
    refine Eq.trans ?_ (Cert.KernelIdeal.Hand.Gateup.final6 (Cert.KernelIdeal.Hand.V2 m g) c).symm
    funext i
    obtain ⟨r, k, rfl⟩ : ∃ (r : Fin 24576) (k : Fin 5120), i = ix2 r k := ⟨i 0, i 1, (ix2_eta i).symm⟩
    exact (Cert.KernelIdeal.Hand.Gateup.codesArr_at (Cert.KernelIdeal.Hand.V2 m g) c r k).symm
  · rw [rows c]
    exact (Cert.KernelIdeal.Hand.codesX m g c).symm
  · rw [rows c]
    exact (Cert.KernelIdeal.Hand.scaleX m g c).symm

end Cert.WholeEquation

end
-- ==== Proof.CallCases.lean ====
/-
The three kinds of grid point of the gate/up call by itself (first, middle and last column step of a row block), which
outputs are idle at each, and the names of the staging and scratch buffers.
-/
module

public import proofs.«01_k».proof.Proof.Gen.GateupIdeal.Frame
public import proofs.«01_k».proof.Proof.Gen.GateupIdeal.Skeleton

@[expose] public section

set_option maxRecDepth 16384

noncomputable section

namespace Cert.GateupIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateupIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 10) — by arithmetic of the point. -/
theorem hcond0_0 : ∀ t : Fin cfg0.N, cond0_0 (grid0.coords t) ↔ t.val % 10 = 0 :=
  (fun t => by
    have ht : t.val < 480 := Nat.lt_of_lt_of_eq t.isLt N_0
    have e0 : (grid0.coords t 0).val = t.val / 10 % 48 := Pipeline.Grid.coords_val t 0 (by decide) rfl
    have e1 : (grid0.coords t 1).val = t.val / 1 % 10 := Pipeline.Grid.coords_val t 1 (by decide) rfl
    simp only [cond0_0, e0, e1]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 10 :=
  (by decide +kernel : ∀ t : Fin grid0.N, cond0_1 (grid0.coords t) ↔ 1 ≤ t.val % 10)

/-- The condition of the body's `scf.if` 2 (`k0_h3`), from the grid coordinates (the skeleton's scalar
    chain substituted). -/
abbrev cond0_2 (i : grid0.Coords) : Prop := k0_cond3 i = 1#1
/-- It holds at the points ≡ 9 (mod 10) — by arithmetic of the point. -/
theorem hcond0_2 : ∀ t : Fin cfg0.N, cond0_2 (grid0.coords t) ↔ t.val % 10 = 9 :=
  (fun t => by
    have ht : t.val < 480 := Nat.lt_of_lt_of_eq t.isLt N_0
    have e0 : (grid0.coords t 0).val = t.val / 10 % 48 := Pipeline.Grid.coords_val t 0 (by decide) rfl
    have e1 : (grid0.coords t 1).val = t.val / 1 % 10 := Pipeline.Grid.coords_val t 1 (by decide) rfl
    simp only [cond0_2, k0_cond3, e0, e1]
    word_cmp
   : ∀ t : Fin grid0.N, cond0_2 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → cond0_1 (grid0.coords t) → ¬cond0_2 (grid0.coords t) → cfg0.idle 6 (grid0.coords t) = true := by decide +kernel
/-- At the points of case B the pipeline does not write output 6's block back. -/
theorem noFlush0_6_B : ∀ t : Fin cfg0.N, ¬cond0_0 (grid0.coords t) → cond0_1 (grid0.coords t) → ¬cond0_2 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cond0_2 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → ¬cond0_2 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → ¬cond0_2 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → cfg0.idle 7 (grid0.coords t) = true := by decide +kernel
/-- At the points of case B the pipeline does not write output 7's block back. -/
theorem noFlush0_7_B : ∀ t : Fin cfg0.N, ¬cond0_0 (grid0.coords t) → cond0_1 (grid0.coords t) → ¬cond0_2 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cond0_2 (grid0.coords t) → cfg0.idle 7 (grid0.coords t) = false := by decide +kernel

/-! ## The kernel body on any staging memrefs: a subtype the run finds -/

/-- One staging buffer of output window 6, through which its contents are stated (`View.read_writes_of_cover`: the
    choice does not matter). -/
abbrev VO0_6 : View sig .tc .vmem S512x5120 .fp8e4m3 := (Memref.whole cc0_stg6_0 : Memref sig .tc .vmem S512x5120 .fp8e4m3).view
/-- One staging buffer of output window 7, through which its contents are stated (`View.read_writes_of_cover`: the
    choice does not matter). -/
abbrev VO0_7 : View sig .tc .vmem S512x1 .f32 := (Memref.whole cc0_stg7_0 : Memref sig .tc .vmem S512x1 .f32).view
/-- Each window's current staging memref at point `t`, spelled as the pipeline passes it (`bodyAt0`), and its wholeness. -/
abbrev ms0_0 (t : Fin cfg0.N) : Memref sig .tc .vmem S512x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S10x512x512 .f32 := Memref.whole cc0_scratch0
abbrev scM0_1 : Memref sig .tc .vmem S512x128 .f32 := Memref.whole cc0_scratch1
/-- The scratch `arg10` the kernel carries between points, as a view: what it holds is stated through it. -/
abbrev VS0_0 : View sig .tc .vmem S10x512x512 .f32 := scM0_0.view
/-- The scratch `arg11` the kernel carries between points, as a view: what it holds is stated through it. -/
abbrev VS0_1 : View sig .tc .vmem S512x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GateupIdeal.Hand

end
-- ==== Proof.CallRunA.lean ====
/-
One run of the body of the gate/up call by itself, on any whole buffers: first column step of a row block: the tile and its lane maxima are stored.
-/
module

public import proofs.«01_k».proof.Proof.CallCases

@[expose] public section

set_option maxRecDepth 16384

noncomputable section

namespace Cert.GateupIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateupIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves in each buffer it stores into, as a list of stored pieces (newest first), at the
    first column step of a row block: the tile and its lane maxima are stored; with the proof that the body, run on whole buffers, leaves exactly these pieces. -/
noncomputable def kernelRun0_A (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : cond0_0 i) (hc1 : ¬cond0_1 i) (hc2 : ¬cond0_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) :
    Σ' (L6 : List (View.Piece (Elt F) S512x5120 .fp8e4m3)), Σ' (L7 : List (View.Piece (Elt F) S512x1 .f32)), Σ' (LS0 : List (View.Piece (Elt F) S10x512x512 .f32)), { LS1 : List (View.Piece (Elt F) S512x128 .f32) //
      ∀ (xi6 : Vec F S512x5120 .fp8e4m3) (xi7 : Vec F S512x1 .f32) (xs0 : Vec F S10x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc0_gateup_eq_skeleton]; unfold cc0_gateup_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.GateupIdeal.Hand

end
-- ==== Proof.CallRunB.lean ====
/-
One run of the body of the gate/up call by itself, on any whole buffers: middle column step: the tile is stored, the lane maxima are folded in.
-/
module

public import proofs.«01_k».proof.Proof.CallRunA

@[expose] public section

set_option maxRecDepth 16384

noncomputable section

namespace Cert.GateupIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateupIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves in each buffer it stores into, as a list of stored pieces (newest first), at the
    middle column step: the tile is stored, the lane maxima are folded in; with the proof that the body, run on whole buffers, leaves exactly these pieces. -/
noncomputable def kernelRun0_B (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : ¬cond0_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    Σ' (L6 : List (View.Piece (Elt F) S512x5120 .fp8e4m3)), Σ' (L7 : List (View.Piece (Elt F) S512x1 .f32)), Σ' (LS0 : List (View.Piece (Elt F) S10x512x512 .f32)), { LS1 : List (View.Piece (Elt F) S512x128 .f32) //
      ∀ (xi6 : Vec F S512x5120 .fp8e4m3) (xi7 : Vec F S512x1 .f32) (xs0 : Vec F S10x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc0_gateup_eq_skeleton]; unfold cc0_gateup_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.GateupIdeal.Hand

end
-- ==== Proof.CallRunC.lean ====
/-
One run of the body of the gate/up call by itself, on any whole buffers: last column step: as in the middle, then the scale and the ten code pieces are stored.
-/
module

public import proofs.«01_k».proof.Proof.CallRunB

@[expose] public section

set_option maxRecDepth 16384

noncomputable section

namespace Cert.GateupIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateupIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves in each buffer it stores into, as a list of stored pieces (newest first), at the
    last column step: as in the middle, then the scale and the ten code pieces are stored; with the proof that the body, run on whole buffers, leaves exactly these pieces. -/
noncomputable def kernelRun0_C (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    Σ' (L6 : List (View.Piece (Elt F) S512x5120 .fp8e4m3)), Σ' (L7 : List (View.Piece (Elt F) S512x1 .f32)), Σ' (LS0 : List (View.Piece (Elt F) S10x512x512 .f32)), { LS1 : List (View.Piece (Elt F) S512x128 .f32) //
      ∀ (xs0 : Vec F S10x512x512 .f32) (hps0_0 : View.readAt (Elt F) arg10.view (Rect.unit (s := S10x512x512) ![0, 0, 0] S1x512x512.size inb_S10x512x512_S1x512x512_0_0_0).toLoadRect (harg10.unread xs0) = ps0_0) (hps0_1 : View.readAt (Elt F) arg10.view (Rect.unit (s := S10x512x512) ![1, 0, 0] S1x512x512.size inb_S10x512x512_S1x512x512_1_0_0).toLoadRect (harg10.unread xs0) = ps0_1) (hps0_2 : View.readAt (Elt F) arg10.view (Rect.unit (s := S10x512x512) ![2, 0, 0] S1x512x512.size inb_S10x512x512_S1x512x512_2_0_0).toLoadRect (harg10.unread xs0) = ps0_2) (hps0_3 : View.readAt (Elt F) arg10.view (Rect.unit (s := S10x512x512) ![3, 0, 0] S1x512x512.size inb_S10x512x512_S1x512x512_3_0_0).toLoadRect (harg10.unread xs0) = ps0_3) (hps0_4 : View.readAt (Elt F) arg10.view (Rect.unit (s := S10x512x512) ![4, 0, 0] S1x512x512.size inb_S10x512x512_S1x512x512_4_0_0).toLoadRect (harg10.unread xs0) = ps0_4) (hps0_5 : View.readAt (Elt F) arg10.view (Rect.unit (s := S10x512x512) ![5, 0, 0] S1x512x512.size inb_S10x512x512_S1x512x512_5_0_0).toLoadRect (harg10.unread xs0) = ps0_5) (hps0_6 : View.readAt (Elt F) arg10.view (Rect.unit (s := S10x512x512) ![6, 0, 0] S1x512x512.size inb_S10x512x512_S1x512x512_6_0_0).toLoadRect (harg10.unread xs0) = ps0_6) (hps0_7 : View.readAt (Elt F) arg10.view (Rect.unit (s := S10x512x512) ![7, 0, 0] S1x512x512.size inb_S10x512x512_S1x512x512_7_0_0).toLoadRect (harg10.unread xs0) = ps0_7) (hps0_8 : View.readAt (Elt F) arg10.view (Rect.unit (s := S10x512x512) ![8, 0, 0] S1x512x512.size inb_S10x512x512_S1x512x512_8_0_0).toLoadRect (harg10.unread xs0) = ps0_8) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gateup i arg2 harg2 arg3 harg3 arg4 harg4 arg5 harg5 arg6 harg6 arg7 harg7 arg8 harg8 arg9 harg9 arg10 harg10 arg11 harg11) K } := by
  refine ⟨?_, ?_, ?_, ?_, fun xs0 hps0_0 hps0_1 hps0_2 hps0_3 hps0_4 hps0_5 hps0_6 hps0_7 hps0_8 E K => ?run⟩
  case run =>
    letI : ClosedOff (k0_off1 i) := ⟨![9, 0, 0], hl0⟩
    simp only [cc0_gateup_eq_skeleton]; unfold cc0_gateup_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    iexists _; iexact HS1

end Cert.GateupIdeal.Hand

end
-- ==== Proof.CallPieces.lean ====
/-
The lists of pieces that a run of the body of the gate/up call by itself stores, in closed form: the tile of `h`, the running
lane maxima, and at the last column step the scale and the ten pieces of codes as functions of the lane maxima and
of the ten stored tiles.
-/
module

public import Idealize.ShloMosaic.Lib.VecWindow
public import proofs.«01_k».proof.Proof.CallRunC

@[expose] public section

set_option maxRecDepth 16384

noncomputable section

namespace Cert.GateupIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateupIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A read of a rectangle just stored, the two rectangles written with equal offsets, gives the stored value. -/
theorem readCov_of_off_eq {κ : Kind} {sp : Space} {s : Shape} {e : EltTy} (v : View sig κ sp s e) {off off' size : Fin s.rank → ℕ}
    (h : off = off') (inb : ∀ a, off a + size a ≤ s.size a) (inb' : ∀ a, off' a + size a ≤ s.size a)
    (w : (Rect.unit off size inb).shape.Idx → Elt F e) (L : List (View.Piece (Elt F) s e)) :
    v.readCov (⟨Rect.unit off size inb, w⟩ :: L) (Rect.unit off' size inb').toLoadRect = w := by
  subst h
  exact View.readCov_cons_toLoadRect v _ w L

/-- The exponent the last column step derives from the running lane maxima `a` (before it is made zero where the row maximum is zero). -/
def expTerm (a : Vec F S512x128 .f32) : Vec F S512x1 .i32 :=
  k0_pay31 (k0_pay6 a) (k0_pay27 (k0_pay14 a) (k0_pay15 a) (k0_pay16 a) k0_pay17)
    (k0_pay28 (k0_pay14 a) (k0_pay16 a) k0_pay17) (k0_pay29 (k0_pay14 a) (k0_pay16 a) k0_pay17)
    (k0_pay30 (k0_pay14 a) (k0_pay15 a) (k0_pay16 a) k0_pay17)

/-- The scale of a row block, from its lane maxima. -/
def scaleBlk (a : Vec F S512x128 .f32) : Vec F S512x1 .f32 := k0_pay34 (expTerm a) (k0_pay32 (k0_pay5 a))

/-- The reciprocal of the scale of a row block, from its lane maxima. -/
def invBlk (a : Vec F S512x128 .f32) : Vec F S512x1 .f32 := k0_pay35 (expTerm a) (k0_pay32 (k0_pay5 a))

/-- The ten pieces of codes of a row block, from its lane maxima and its ten tiles of `h`. -/
def codesL (a : Vec F S512x128 .f32) (p0 p1 p2 p3 p4 p5 p6 p7 p8 p9 : Vec F S1x512x512 .f32) :
    List (View.Piece (Elt F) S512x5120 .fp8e4m3) :=
  [⟨Rect.unit (s := S512x5120) ![0, 4608] ![512, 512] inb_S512x5120_S512x512_0_4608, k0_pay4 (invBlk a) p9⟩,
    ⟨Rect.unit (s := S512x5120) ![0, 4096] ![512, 512] inb_S512x5120_S512x512_0_4096, k0_pay3 (k0_pay46 (invBlk a) p8) k0_pay47⟩,
    ⟨Rect.unit (s := S512x5120) ![0, 3584] ![512, 512] inb_S512x5120_S512x512_0_3584, k0_pay45 (invBlk a) p7⟩,
    ⟨Rect.unit (s := S512x5120) ![0, 3072] ![512, 512] inb_S512x5120_S512x512_0_3072, k0_pay44 (invBlk a) p6⟩,
    ⟨Rect.unit (s := S512x5120) ![0, 2560] ![512, 512] inb_S512x5120_S512x512_0_2560, k0_pay43 (k0_pay41 p5) (k0_pay42 (invBlk a))⟩,
    ⟨Rect.unit (s := S512x5120) ![0, 2048] ![512, 512] inb_S512x5120_S512x512_0_2048, k0_pay40 (invBlk a) p4⟩,
    ⟨Rect.unit (s := S512x5120) ![0, 1536] ![512, 512] inb_S512x5120_S512x512_0_1536, k0_pay39 (invBlk a) p3⟩,
    ⟨Rect.unit (s := S512x5120) ![0, 1024] ![512, 512] inb_S512x5120_S512x512_0_1024, k0_pay38 (invBlk a) p2⟩,
    ⟨Rect.unit (s := S512x5120) ![0, 512] ![512, 512] inb_S512x5120_S512x512_0_512, k0_pay37 (expTerm a) (k0_pay32 (k0_pay5 a)) p1⟩,
    ⟨Rect.unit (s := S512x5120) ![0, 0] ![512, 512] inb_S512x5120_S512x512_0_0, k0_pay36 (expTerm a) (k0_pay32 (k0_pay5 a)) p0⟩]

/-- The block of codes of a row block, from its lane maxima and its ten tiles of `h`. -/
def codesBlk (a : Vec F S512x128 .f32) (p0 p1 p2 p3 p4 p5 p6 p7 p8 p9 : Vec F S1x512x512 .f32) : Vec F S512x5120 .fp8e4m3 :=
  View.canon (codesL a p0 p1 p2 p3 p4 p5 p6 p7 p8 p9)

/-- The lane maxima of the tile computed from the six blocks. -/
abbrev laneMax (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) : Vec F S512x128 .f32 :=
  k0_pay50 x0 x1 x2 x3 x4 x5

/-- The tile stored into the scratch of `h` tiles. -/
theorem piecesA_h (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : cond0_0 i) (hc1 : ¬cond0_1 i) (hc2 : ¬cond0_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) :
    (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1 = [⟨Rect.unit (s := S10x512x512) (k0_off1 i) ![1, 512, 512] (k0_off1_inb i), k0_pay49 x0 x1 x2 x3 x4 x5⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  unfold kernelRun0_A; dsimp only
  simp only [e2, e3, e4, e5, e6, e7]

/-- The tile stored into the scratch of `h` tiles. -/
theorem piecesB_h (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : ¬cond0_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.1 = [⟨Rect.unit (s := S10x512x512) (k0_off1 i) ![1, 512, 512] (k0_off1_inb i), k0_pay49 x0 x1 x2 x3 x4 x5⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun0_B; dsimp only
  simp only [e2, e3, e4, e5, e6, e7, e11]

/-- The tile stored into the scratch of `h` tiles. -/
theorem piecesC_h (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8).2.2.1 = [⟨Rect.unit (s := S10x512x512) (k0_off1 i) ![1, 512, 512] (k0_off1_inb i), k0_pay49 x0 x1 x2 x3 x4 x5⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun0_C; dsimp only
  unfold kernelRun0_C.sl.HS0_1
  simp only [e2, e3, e4, e5, e6, e7, e11]

/-- The lane maxima stored. -/
theorem piecesA_a (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : cond0_0 i) (hc1 : ¬cond0_1 i) (hc2 : ¬cond0_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) :
    (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1 = [⟨Rect.unit (s := S512x128) ![0, 0] ![512, 128] inb_S512x128_S512x128_0_0, k0_pay1 (laneMax x0 x1 x2 x3 x4 x5)⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  unfold kernelRun0_A; dsimp only
  unfold kernelRun0_A.sl.r
  simp only [e2, e3, e4, e5, e6, e7]

/-- The lane maxima stored. -/
theorem piecesB_a (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : ¬cond0_2 i)
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.2.1 = [⟨Rect.unit (s := S512x128) ![0, 0] ![512, 128] inb_S512x128_S512x128_0_0, k0_pay2 (laneMax x0 x1 x2 x3 x4 x5) xs1⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun0_B; dsimp only
  unfold kernelRun0_B.sl.r
  simp only [e2, e3, e4, e5, e6, e7, e11]

/-- The lane maxima stored. -/
theorem piecesC_a (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8).2.2.2.1 = [⟨Rect.unit (s := S512x128) ![0, 0] ![512, 128] inb_S512x128_S512x128_0_0, k0_pay2 (laneMax x0 x1 x2 x3 x4 x5) xs1⟩] := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun0_C; dsimp only
  unfold kernelRun0_C.sl.HS1_1 kernelRun0_C.sl.r
  simp only [e2, e3, e4, e5, e6, e7, e11]

/-- The lane maxima as read back at the last column step. -/
theorem amax_readC (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    kernelRun0_C.sl.v45 c arg2 harg2 arg3 harg3 arg4 harg4 arg5 harg5 arg6 harg6 arg7 harg7 arg11 harg11 x0 x1 x2 x3 x4 x5 xs1 = (k0_pay2 (laneMax x0 x1 x2 x3 x4 x5) xs1) := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun0_C.sl.v45 kernelRun0_C.sl.HS1_1 kernelRun0_C.sl.r
  rw [View.readCov_full]
  dsimp only
  simp only [e2, e3, e4, e5, e6, e7, e11]

/-- The last tile as read back at the last column step. -/
theorem tile_readC (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    kernelRun0_C.sl.v278 c i arg2 harg2 arg3 harg3 arg4 harg4 arg5 harg5 arg6 harg6 arg7 harg7 arg10 x0 x1 x2 x3 x4 x5 = k0_pay49 x0 x1 x2 x3 x4 x5 := by
  have e2 : ∀ inb, View.readAt (Elt F) arg2.view (Rect.unit (s := S512x7168) ![0, 0] ![512, 7168] inb).toLoadRect (harg2.unread x0) = x0 :=
    fun inb => (View.readAt_full arg2.view _ inb).trans (harg2.read_unread x0)
  have e3 : ∀ inb, View.readAt (Elt F) arg3.view (Rect.unit (s := S512x1) ![0, 0] ![512, 1] inb).toLoadRect (harg3.unread x1) = x1 :=
    fun inb => (View.readAt_full arg3.view _ inb).trans (harg3.read_unread x1)
  have e4 : ∀ inb, View.readAt (Elt F) arg4.view (Rect.unit (s := S7168x512) ![0, 0] ![7168, 512] inb).toLoadRect (harg4.unread x2) = x2 :=
    fun inb => (View.readAt_full arg4.view _ inb).trans (harg4.read_unread x2)
  have e5 : ∀ inb, View.readAt (Elt F) arg5.view (Rect.unit (s := S7168x512) ![0, 0] ![7168, 512] inb).toLoadRect (harg5.unread x3) = x3 :=
    fun inb => (View.readAt_full arg5.view _ inb).trans (harg5.read_unread x3)
  have e6 : ∀ inb, View.readAt (Elt F) arg6.view (Rect.unit (s := S1x512) ![0, 0] ![1, 512] inb).toLoadRect (harg6.unread x4) = x4 :=
    fun inb => (View.readAt_full arg6.view _ inb).trans (harg6.read_unread x4)
  have e7 : ∀ inb, View.readAt (Elt F) arg7.view (Rect.unit (s := S1x512) ![0, 0] ![1, 512] inb).toLoadRect (harg7.unread x5) = x5 :=
    fun inb => (View.readAt_full arg7.view _ inb).trans (harg7.read_unread x5)
  have e11 : ∀ inb, View.readAt (Elt F) arg11.view (Rect.unit (s := S512x128) ![0, 0] ![512, 128] inb).toLoadRect (harg11.unread xs1) = xs1 :=
    fun inb => (View.readAt_full arg11.view _ inb).trans (harg11.read_unread xs1)
  unfold kernelRun0_C.sl.v278 kernelRun0_C.sl.HS0_1
  rw [readCov_of_off_eq arg10.view hl0]
  simp only [e2, e3, e4, e5, e6, e7, e11]

/-- The reciprocal of the scale at the last column step. -/
theorem inv_readC (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) :
    kernelRun0_C.sl.r_12 c arg2 harg2 arg3 harg3 arg4 harg4 arg5 harg5 arg6 harg6 arg7 harg7 arg11 harg11 x0 x1 x2 x3 x4 x5 xs1 = invBlk (k0_pay2 (laneMax x0 x1 x2 x3 x4 x5) xs1) := by
  unfold kernelRun0_C.sl.r_12 kernelRun0_C.sl.r_11 kernelRun0_C.sl.r_10 kernelRun0_C.sl.r_9 kernelRun0_C.sl.r_8 kernelRun0_C.sl.r_7 kernelRun0_C.sl.r_6 kernelRun0_C.sl.r_5 kernelRun0_C.sl.r_4 kernelRun0_C.sl.r_3 kernelRun0_C.sl.r_2 kernelRun0_C.sl.r_1
  rw [amax_readC c i arg2 harg2 arg3 harg3 arg4 harg4 arg5 harg5 arg6 harg6 arg7 harg7 arg8 harg8 arg9 harg9 arg10 harg10 arg11 harg11 hc0 hc1 hc2 hl0 x0 x1 x2 x3 x4 x5 xs1]
  rfl

/-- The scale stored at the last column step. -/
theorem piecesC_7 (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8).2.1 = [⟨Rect.unit (s := S512x1) ![0, 0] ![512, 1] inb_S512x1_S512x1_0_0, scaleBlk (k0_pay2 (laneMax x0 x1 x2 x3 x4 x5) xs1)⟩] := by
  unfold kernelRun0_C; dsimp only
  unfold kernelRun0_C.sl.r_11 kernelRun0_C.sl.r_10 kernelRun0_C.sl.r_9 kernelRun0_C.sl.r_8 kernelRun0_C.sl.r_7 kernelRun0_C.sl.r_6 kernelRun0_C.sl.r_5 kernelRun0_C.sl.r_4 kernelRun0_C.sl.r_3 kernelRun0_C.sl.r_2 kernelRun0_C.sl.r_1
  rw [amax_readC c i arg2 harg2 arg3 harg3 arg4 harg4 arg5 harg5 arg6 harg6 arg7 harg7 arg8 harg8 arg9 harg9 arg10 harg10 arg11 harg11 hc0 hc1 hc2 hl0 x0 x1 x2 x3 x4 x5 xs1]
  rfl

/-- The pieces of codes stored at the last column step. -/
theorem piecesC_6 (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S7168x512 .fp8e4m3) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S10x512x512 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![9, 0, 0])
    (x0 : Vec F S512x7168 .fp8e4m3) (x1 : Vec F S512x1 .f32) (x2 : Vec F S7168x512 .fp8e4m3) (x3 : Vec F S7168x512 .fp8e4m3) (x4 : Vec F S1x512 .f32) (x5 : Vec F S1x512 .f32) (xs1 : Vec F S512x128 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8).1 = codesL (k0_pay2 (laneMax x0 x1 x2 x3 x4 x5) xs1) ps0_0 ps0_1 ps0_2 ps0_3 ps0_4 ps0_5 ps0_6 ps0_7 ps0_8 (k0_pay49 x0 x1 x2 x3 x4 x5) := by
  unfold kernelRun0_C; dsimp only
  unfold kernelRun0_C.sl.r_13 kernelRun0_C.sl.r_14
  rw [tile_readC c i arg2 harg2 arg3 harg3 arg4 harg4 arg5 harg5 arg6 harg6 arg7 harg7 arg8 harg8 arg9 harg9 arg10 harg10 arg11 harg11 hc0 hc1 hc2 hl0 x0 x1 x2 x3 x4 x5 xs1, inv_readC c i arg2 harg2 arg3 harg3 arg4 harg4 arg5 harg5 arg6 harg6 arg7 harg7 arg8 harg8 arg9 harg9 arg10 harg10 arg11 harg11 hc0 hc1 hc2 hl0 x0 x1 x2 x3 x4 x5 xs1]
  unfold kernelRun0_C.sl.r_11 kernelRun0_C.sl.r_10 kernelRun0_C.sl.r_9 kernelRun0_C.sl.r_8 kernelRun0_C.sl.r_7 kernelRun0_C.sl.r_6 kernelRun0_C.sl.r_5 kernelRun0_C.sl.r_4 kernelRun0_C.sl.r_3 kernelRun0_C.sl.r_2 kernelRun0_C.sl.r_1
  rw [amax_readC c i arg2 harg2 arg3 harg3 arg4 harg4 arg5 harg5 arg6 harg6 arg7 harg7 arg8 harg8 arg9 harg9 arg10 harg10 arg11 harg11 hc0 hc1 hc2 hl0 x0 x1 x2 x3 x4 x5 xs1]
  rfl

end Cert.GateupIdeal.Hand

end
-- ==== Proof.CallFrame.lean ====
/-
What the gate/up call's buffers hold after each grid point, the proof that the body keeps it so, and the frame:
the kernel's run ends, with its arguments unchanged and every counter at zero.
-/
module

public import proofs.«01_k».proof.Proof.CallPieces
public import proofs.«01_k».proof.Proof.Gen.GateupIdeal.Points
public import Idealize.ShloMosaic.Lib.Claim

@[expose] public section

set_option maxRecDepth 16384

noncomputable section

namespace Cert.GateupIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateupIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n` (modulo the number of points, so that it is one for every `n`). -/
def ptOf (n : ℕ) : Fin cfg0.N := ⟨n % cfg0.N, Nat.mod_lt _ (by rw [show cfg0.N = 480 from N_0]; omega)⟩

theorem ptOf_val (t : Fin cfg0.N) : ptOf t.val = t := Fin.ext (Nat.mod_eq_of_lt t.isLt)

/-- The tile of `h` computed at grid point `n`. -/
def tileAt (c : Dev nD) (n : ℕ) : Vec F S1x512x512 .f32 :=
  k0_pay49 (iblk m c 0 (ptOf n)) (iblk m c 1 (ptOf n)) (iblk m c 2 (ptOf n)) (iblk m c 3 (ptOf n)) (iblk m c 4 (ptOf n)) (iblk m c 5 (ptOf n))

/-- The lane maxima of the tile computed at grid point `n`. -/
def laneAt (c : Dev nD) (n : ℕ) : Vec F S512x128 .f32 :=
  laneMax (iblk m c 0 (ptOf n)) (iblk m c 1 (ptOf n)) (iblk m c 2 (ptOf n)) (iblk m c 3 (ptOf n)) (iblk m c 4 (ptOf n)) (iblk m c 5 (ptOf n))

/-- The running lane maxima of row block `b` after its column steps `0, …, j`. -/
def amaxUpTo (c : Dev nD) (b : ℕ) : ℕ → Vec F S512x128 .f32
  | 0 => k0_pay1 (laneAt m c (10 * b))
  | j + 1 => k0_pay2 (laneAt m c (10 * b + (j + 1))) (amaxUpTo c b j)

/-- The codes of row block `b`. -/
def codesOf (c : Dev nD) (b : ℕ) : Vec F S512x5120 .fp8e4m3 :=
  codesBlk (amaxUpTo m c b 9) (tileAt m c (10 * b + 0)) (tileAt m c (10 * b + 1)) (tileAt m c (10 * b + 2)) (tileAt m c (10 * b + 3)) (tileAt m c (10 * b + 4)) (tileAt m c (10 * b + 5)) (tileAt m c (10 * b + 6)) (tileAt m c (10 * b + 7)) (tileAt m c (10 * b + 8)) (tileAt m c (10 * b + 9))

/-- The scales of row block `b`. -/
def scaleOf (c : Dev nD) (b : ℕ) : Vec F S512x1 .f32 := scaleBlk (amaxUpTo m c b 9)

theorem slice_inb (k : ℕ) (hk : k < 10) : ∀ a : Fin 3, (![k, 0, 0] : Fin 3 → ℕ) a + (![1, 512, 512] : Fin 3 → ℕ) a ≤ S10x512x512.size a := by
  intro a
  match a with
  | ⟨0, _⟩ => show k + 1 ≤ 10; omega
  | ⟨1, _⟩ => show 0 + 512 ≤ 512; omega
  | ⟨2, _⟩ => show 0 + 512 ≤ 512; omega

/-- Slice `k` of the scratch of `h` tiles. -/
abbrev slice (h : Vec F S10x512x512 .f32) (k : ℕ) (hk : k < 10) : Vec F S1x512x512 .f32 :=
  VecWindow.window (s := S10x512x512) h ![k, 0, 0] ![1, 512, 512] (slice_inb k hk)

/-- A tile put at slice `j` is there; the other slices are as they were. -/
theorem slice_put_same (h : Vec F S10x512x512 .f32) (w : Vec F S1x512x512 .f32) (j : ℕ) (hj : j < 10) :
    slice (VecWindow.put (s := S10x512x512) h ![j, 0, 0] ![1, 512, 512] w) j hj = w :=
  VecWindow.window_put_same (s := S10x512x512) h ![j, 0, 0] ![1, 512, 512] (slice_inb j hj) w

theorem slice_put_ne (h : Vec F S10x512x512 .f32) (w : Vec F S1x512x512 .f32) (j k : ℕ) (hk : k < 10) (hne : k ≠ j) :
    slice (VecWindow.put (s := S10x512x512) h ![j, 0, 0] ![1, 512, 512] w) k hk = slice h k hk := by
  refine VecWindow.window_put_of_disjoint (s := S10x512x512) h ![j, 0, 0] ![1, 512, 512] ![k, 0, 0] ![1, 512, 512] (slice_inb k hk) w 0 ?_
  show k + 1 ≤ j ∨ j + 1 ≤ k
  omega

/-- What the two scratch buffers hold before grid point `n`: the tiles of the column steps done in this row block,
    and the running lane maxima. -/
def Held (c : Dev nD) (n : ℕ) (h : Vec F S10x512x512 .f32) (a : Vec F S512x128 .f32) : Prop :=
  (∀ k (hk : k < n % 10), slice h k (by omega) = tileAt m c (10 * (n / 10) + k))
    ∧ ∀ j, n % 10 = j + 1 → a = amaxUpTo m c (n / 10) j

/-- Nothing is asked before the first column step of a row block. -/
theorem held_start (c : Dev nD) (n : ℕ) (hn : n % 10 = 0) (h : Vec F S10x512x512 .f32) (a : Vec F S512x128 .f32) : Held m c n h a :=
  ⟨fun k hk => by omega, fun j hj => by omega⟩

/-- The first column step. -/
theorem held_first (c : Dev nD) (n : ℕ) (hn : n % 10 = 0) (h : Vec F S10x512x512 .f32) :
    Held m c (n + 1) (VecWindow.put (s := S10x512x512) h ![n % 10, 0, 0] ![1, 512, 512] (tileAt m c n)) (k0_pay1 (laneAt m c n)) := by
  have hd : (n + 1) / 10 = n / 10 := by omega
  have hb : 10 * (n / 10) = n := by omega
  refine ⟨fun k hk => ?_, fun j hj => ?_⟩
  · obtain rfl : k = n % 10 := by omega
    rw [slice_put_same, hd, hn, hb, Nat.add_zero]
  · obtain rfl : j = 0 := by omega
    rw [hd]; show _ = k0_pay1 (laneAt m c (10 * (n / 10))); rw [hb]

/-- A middle column step. -/
theorem held_next (c : Dev nD) (n : ℕ) (h0 : n % 10 ≠ 0) (h9 : n % 10 ≠ 9) (h : Vec F S10x512x512 .f32) (a : Vec F S512x128 .f32)
    (hh : Held m c n h a) :
    Held m c (n + 1) (VecWindow.put (s := S10x512x512) h ![n % 10, 0, 0] ![1, 512, 512] (tileAt m c n)) (k0_pay2 (laneAt m c n) a) := by
  have hd : (n + 1) / 10 = n / 10 := by omega
  have hm : (n + 1) % 10 = n % 10 + 1 := by omega
  have hb : 10 * (n / 10) + n % 10 = n := by omega
  refine ⟨fun k hk => ?_, fun j hj => ?_⟩
  · by_cases hkn : k = n % 10
    · subst hkn; rw [slice_put_same, hd, hb]
    · rw [slice_put_ne h _ _ _ _ hkn, hd]; exact hh.1 k (by omega)
  · obtain ⟨i, rfl⟩ : ∃ i, j = i + 1 := ⟨j - 1, by omega⟩
    rw [hd, hh.2 i (by omega)]
    show _ = k0_pay2 (laneAt m c (10 * (n / 10) + (i + 1))) (amaxUpTo m c (n / 10) i)
    rw [show 10 * (n / 10) + (i + 1) = n by omega]

/-- The store's offsets at a grid point, as numbers. -/
theorem off_at : ∀ t : Fin cfg0.N, k0_off1 (grid0.coords t) = ![t.val % 10, 0, 0] :=
  (by decide +kernel : ∀ t : Fin grid0.N, k0_off1 (grid0.coords t) = ![t.val % 10, 0, 0])

/-- The invariant before grid point `n`: the two scratch buffers as `Held` says, and the generator register. -/
def PhiS (c : Dev nD) (n : ℕ) (h : n ≤ cfg0.N) : sProp 𝕄 :=
  iprop(∃ d a, ⌜Held m c n d a⌝ ∗ owns (c : Thread nD τ) scM0_0 fullShare d ∗ owns (c : Thread nD τ) scM0_1 fullShare a ∗ (∃ r, prngReg c r))

/-- The proof data of the pipeline: each input's buffer at its block, the outputs at the row block's codes and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesOf m c (t.val / 10)
    | ⟨7, _⟩ => scaleOf m c (t.val / 10)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesOf m c (t.val / 10) := by dsimp only [dats]
theorem after0_7 (c : Dev nD) (t : Fin cfg0.N) : (dats m 0 c).after 7 t = scaleOf m c (t.val / 10) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem cover_codes (a : Vec F S512x128 .f32) (p0 p1 p2 p3 p4 p5 p6 p7 p8 p9 : Vec F S1x512x512 .f32) (y : S512x5120.Idx) :
    ∃ pc ∈ codesL a p0 p1 p2 p3 p4 p5 p6 p7 p8 p9, y ∈ pc.1.set :=
  View.cover_of_tiledL (codesL a p0 p1 p2 p3 p4 p5 p6 p7 p8 p9) S512x512.size (by sl_kernel_rfl) y

set_option maxHeartbeats 9600000 in
/-- The body at a first column step. -/
theorem sound_A (c : Dev nD) (t : Fin cfg0.N) (h0 : t.val % 10 = 0) (h1 : ¬1 ≤ t.val % 10) (h2 : ¬t.val % 10 = 9) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
  rw [Dat.leavesExact_idle (dats m 0 c) 7 t (idleAt0_7_A t ((hcond0_0 t).mpr h0) (fun h => h1 ((hcond0_1 t).mp h)) (fun h => h2 ((hcond0_2 t).mp h))) (noFlush0_7_A t ((hcond0_0 t).mpr h0) (fun h => h1 ((hcond0_1 t).mp h)) (fun h => h2 ((hcond0_2 t).mp h)))]
  iintro ⟨⟨%dS0, %dS1, %hh, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have eT : tileAt m c t.val = k0_pay49 (iblk m c 0 t) (iblk m c 1 t) (iblk m c 2 t) (iblk m c 3 t) (iblk m c 4 t) (iblk m c 5 t) := by unfold tileAt; rw [ptOf_val]
  have eL : laneAt m c t.val = laneMax (iblk m c 0 t) (iblk m c 1 t) (iblk m c 2 t) (iblk m c 3 t) (iblk m c 4 t) (iblk m c 5 t) := by unfold laneAt; rw [ptOf_val]
  iapply ((kernelRun0_A c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexists _; iexact HS1
  iintro ⟨H0, H1, H2, H3, H4, H5, H6, H7, HS0, ⟨%es1, HS1⟩⟩
  isplitl [HS0 HS1 Hg]
  · iexists (VecWindow.put (s := S10x512x512) dS0 ![t.val % 10, 0, 0] ![1, 512, 512] (tileAt m c t.val)), (k0_pay1 (laneAt m c t.val))
    isplitr
    · ipureintro; exact held_first m c t.val h0 dS0
    isplitl [HS0]
    · unfold owns; iexists _; isplitr
      swap; · iexact HS0
      ipureintro
      rw [piecesA_h, View.read_writes_cons_put _ _ _ _ _ (off_at t), eT]
      exact congrArg (fun z => VecWindow.put (s := S10x512x512) z ![t.val % 10, 0, 0] ![1, 512, 512] _) (Memref.IsWhole.read_unread _ _)
    isplitl [HS1]
    · unfold owns; iexists _; isplitr
      swap; · iexact HS1
      ipureintro
      rw [piecesA_a, eL]
      exact View.read_writes_full _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 9600000 in
/-- The body at a middle column step. -/
theorem sound_B (c : Dev nD) (t : Fin cfg0.N) (h0 : ¬t.val % 10 = 0) (h1 : 1 ≤ t.val % 10) (h2 : ¬t.val % 10 = 9) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
  rw [Dat.leavesExact_idle (dats m 0 c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
  iintro ⟨⟨%dS0, %dS1, %hh, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have eT : tileAt m c t.val = k0_pay49 (iblk m c 0 t) (iblk m c 1 t) (iblk m c 2 t) (iblk m c 3 t) (iblk m c 4 t) (iblk m c 5 t) := by unfold tileAt; rw [ptOf_val]
  have eL : laneAt m c t.val = laneMax (iblk m c 0 t) (iblk m c 1 t) (iblk m c 2 t) (iblk m c 3 t) (iblk m c 4 t) (iblk m c 5 t) := by unfold laneAt; rw [ptOf_val]
  iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) dS1).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, ⟨%es1, HS1⟩⟩
  isplitl [HS0 HS1 Hg]
  · iexists (VecWindow.put (s := S10x512x512) dS0 ![t.val % 10, 0, 0] ![1, 512, 512] (tileAt m c t.val)), (k0_pay2 (laneAt m c t.val) dS1)
    isplitr
    · ipureintro; exact held_next m c t.val h0 h2 dS0 dS1 hh
    isplitl [HS0]
    · unfold owns; iexists _; isplitr
      swap; · iexact HS0
      ipureintro
      rw [piecesB_h, View.read_writes_cons_put _ _ _ _ _ (off_at t), eT]
      exact congrArg (fun z => VecWindow.put (s := S10x512x512) z ![t.val % 10, 0, 0] ![1, 512, 512] _) (Memref.IsWhole.read_unread _ _)
    isplitl [HS1]
    · unfold owns; iexists _; isplitr
      swap; · iexact HS1
      ipureintro
      rw [piecesB_a, eL]
      exact View.read_writes_full _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 9600000 in
/-- The body at a last column step. -/
theorem sound_C (c : Dev nD) (t : Fin cfg0.N) (h0 : ¬t.val % 10 = 0) (h1 : 1 ≤ t.val % 10) (h2 : t.val % 10 = 9) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1) ((hcond0_2 t).mpr h2)], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1) ((hcond0_2 t).mpr h2)], after0_7]
  iintro ⟨⟨%dS0, %dS1, %hh, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have eT : tileAt m c t.val = k0_pay49 (iblk m c 0 t) (iblk m c 1 t) (iblk m c 2 t) (iblk m c 3 t) (iblk m c 4 t) (iblk m c 5 t) := by unfold tileAt; rw [ptOf_val]
  have eL : laneAt m c t.val = laneMax (iblk m c 0 t) (iblk m c 1 t) (iblk m c 2 t) (iblk m c 3 t) (iblk m c 4 t) (iblk m c 5 t) := by unfold laneAt; rw [ptOf_val]
  have hl0 : k0_off1 (grid0.coords t) = ![9, 0, 0] := by rw [off_at t, h2]
  have hp0 : View.readAt (Elt F) scM0_0.view (Rect.unit (s := S10x512x512) ![0, 0, 0] S1x512x512.size inb_S10x512x512_S1x512x512_0_0_0).toLoadRect ((Memref.isWhole_whole cc0_scratch0 : scM0_0.IsWhole).unread dS0) = tileAt m c (10 * (t.val / 10) + 0) := by
    rw [← hh.1 0 (by omega), View.readAt_eq_ld, Memref.IsWhole.read_unread]; rfl
  have hp1 : View.readAt (Elt F) scM0_0.view (Rect.unit (s := S10x512x512) ![1, 0, 0] S1x512x512.size inb_S10x512x512_S1x512x512_1_0_0).toLoadRect ((Memref.isWhole_whole cc0_scratch0 : scM0_0.IsWhole).unread dS0) = tileAt m c (10 * (t.val / 10) + 1) := by
    rw [← hh.1 1 (by omega), View.readAt_eq_ld, Memref.IsWhole.read_unread]; rfl
  have hp2 : View.readAt (Elt F) scM0_0.view (Rect.unit (s := S10x512x512) ![2, 0, 0] S1x512x512.size inb_S10x512x512_S1x512x512_2_0_0).toLoadRect ((Memref.isWhole_whole cc0_scratch0 : scM0_0.IsWhole).unread dS0) = tileAt m c (10 * (t.val / 10) + 2) := by
    rw [← hh.1 2 (by omega), View.readAt_eq_ld, Memref.IsWhole.read_unread]; rfl
  have hp3 : View.readAt (Elt F) scM0_0.view (Rect.unit (s := S10x512x512) ![3, 0, 0] S1x512x512.size inb_S10x512x512_S1x512x512_3_0_0).toLoadRect ((Memref.isWhole_whole cc0_scratch0 : scM0_0.IsWhole).unread dS0) = tileAt m c (10 * (t.val / 10) + 3) := by
    rw [← hh.1 3 (by omega), View.readAt_eq_ld, Memref.IsWhole.read_unread]; rfl
  have hp4 : View.readAt (Elt F) scM0_0.view (Rect.unit (s := S10x512x512) ![4, 0, 0] S1x512x512.size inb_S10x512x512_S1x512x512_4_0_0).toLoadRect ((Memref.isWhole_whole cc0_scratch0 : scM0_0.IsWhole).unread dS0) = tileAt m c (10 * (t.val / 10) + 4) := by
    rw [← hh.1 4 (by omega), View.readAt_eq_ld, Memref.IsWhole.read_unread]; rfl
  have hp5 : View.readAt (Elt F) scM0_0.view (Rect.unit (s := S10x512x512) ![5, 0, 0] S1x512x512.size inb_S10x512x512_S1x512x512_5_0_0).toLoadRect ((Memref.isWhole_whole cc0_scratch0 : scM0_0.IsWhole).unread dS0) = tileAt m c (10 * (t.val / 10) + 5) := by
    rw [← hh.1 5 (by omega), View.readAt_eq_ld, Memref.IsWhole.read_unread]; rfl
  have hp6 : View.readAt (Elt F) scM0_0.view (Rect.unit (s := S10x512x512) ![6, 0, 0] S1x512x512.size inb_S10x512x512_S1x512x512_6_0_0).toLoadRect ((Memref.isWhole_whole cc0_scratch0 : scM0_0.IsWhole).unread dS0) = tileAt m c (10 * (t.val / 10) + 6) := by
    rw [← hh.1 6 (by omega), View.readAt_eq_ld, Memref.IsWhole.read_unread]; rfl
  have hp7 : View.readAt (Elt F) scM0_0.view (Rect.unit (s := S10x512x512) ![7, 0, 0] S1x512x512.size inb_S10x512x512_S1x512x512_7_0_0).toLoadRect ((Memref.isWhole_whole cc0_scratch0 : scM0_0.IsWhole).unread dS0) = tileAt m c (10 * (t.val / 10) + 7) := by
    rw [← hh.1 7 (by omega), View.readAt_eq_ld, Memref.IsWhole.read_unread]; rfl
  have hp8 : View.readAt (Elt F) scM0_0.view (Rect.unit (s := S10x512x512) ![8, 0, 0] S1x512x512.size inb_S10x512x512_S1x512x512_8_0_0).toLoadRect ((Memref.isWhole_whole cc0_scratch0 : scM0_0.IsWhole).unread dS0) = tileAt m c (10 * (t.val / 10) + 8) := by
    rw [← hh.1 8 (by omega), View.readAt_eq_ld, Memref.IsWhole.read_unread]; rfl
  iapply ((kernelRun0_C c (grid0.coords t) _ _ _ _ _ _ _ _ _ _ _ _ _ _ _ _ _ _ _ _ (fun h => h0 ((hcond0_0 t).mp h)) ((hcond0_1 t).mpr h1) ((hcond0_2 t).mpr h2) hl0 (iblk m c 0 t) (iblk m c 1 t) (iblk m c 2 t) (iblk m c 3 t) (iblk m c 4 t) (iblk m c 5 t) dS1 (tileAt m c (10 * (t.val / 10) + 0)) (tileAt m c (10 * (t.val / 10) + 1)) (tileAt m c (10 * (t.val / 10) + 2)) (tileAt m c (10 * (t.val / 10) + 3)) (tileAt m c (10 * (t.val / 10) + 4)) (tileAt m c (10 * (t.val / 10) + 5)) (tileAt m c (10 * (t.val / 10) + 6)) (tileAt m c (10 * (t.val / 10) + 7)) (tileAt m c (10 * (t.val / 10) + 8))).2.2.2.2 dS0 hp0 hp1 hp2 hp3 hp4 hp5 hp6 hp7 hp8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, HS0, ⟨%es1, HS1⟩⟩
  isplitl [HS0 HS1 Hg]
  · iexists (VecWindow.put (s := S10x512x512) dS0 ![t.val % 10, 0, 0] ![1, 512, 512] (tileAt m c t.val)), (k0_pay2 (laneAt m c t.val) dS1)
    isplitr
    · ipureintro; exact held_start m c (t.val + 1) (by omega) _ _
    isplitl [HS0]
    · unfold owns; iexists _; isplitr
      swap; · iexact HS0
      ipureintro
      rw [piecesC_h, View.read_writes_cons_put _ _ _ _ _ (off_at t), eT]
      exact congrArg (fun z => VecWindow.put (s := S10x512x512) z ![t.val % 10, 0, 0] ![1, 512, 512] _) (Memref.IsWhole.read_unread _ _)
    isplitl [HS1]
    · unfold owns; iexists _; isplitr
      swap; · iexact HS1
      ipureintro
      rw [piecesC_a, eL]
      exact View.read_writes_full _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  have eA : amaxUpTo m c (t.val / 10) 9 = k0_pay2 (laneMax (iblk m c 0 t) (iblk m c 1 t) (iblk m c 2 t) (iblk m c 3 t) (iblk m c 4 t) (iblk m c 5 t)) dS1 := by
    rw [← eL, hh.2 8 (by omega)]
    show k0_pay2 (laneAt m c (10 * (t.val / 10) + (8 + 1))) _ = _
    rw [show 10 * (t.val / 10) + (8 + 1) = t.val by omega]
  isplitl [H6]
  · unfold owns; iexists _; isplitr
    swap; · iexact H6
    ipureintro
    rw [piecesC_6, View.read_writes_eq_canon _ _ _ (cover_codes _ _ _ _ _ _ _ _ _ _ _)]
    unfold codesOf
    rw [eA, show 10 * (t.val / 10) + 9 = t.val by omega, eT]
    rfl
  unfold owns; iexists _; isplitr
  swap; · iexact H7
  ipureintro
  rw [piecesC_7]
  unfold scaleOf
  rw [eA]
  exact View.read_writes_full _ _ _ _ _

/-- The body at any grid point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 10 = 0
  · exact sound_A m c t h0 (by omega) (by omega)
  · by_cases h2 : t.val % 10 = 9
    · exact sound_C m c t h0 (by omega) h2
    · exact sound_B m c t h0 (by omega) h2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%dS0, HS0⟩, ⟨%dS1, HS1⟩⟩, Hg⟩
  iexists dS0, dS1
  isplitr
  · ipureintro; exact held_start m c 0 rfl _ _
  isplitl [HS0]; · iexact HS0
  isplitl [HS1]; · iexact HS1
  iexact Hg

/-- After the last point the invariant gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%dS0, %dS1, %hh, HS0, HS1, Hg⟩
  isplitl [HS0 HS1]
  · isplitl [HS0]
    · iexists _; iexact HS0
    iexists _; iexact HS1
  iexact Hg

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, the arguments are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.GateupIdeal.Hand

end
-- ==== Proof.CallBits.lean ====
/-
The frame of the gate/up call by itself in floats. The program printed for floats and the one printed for the reals are the
same code, and the frame of the second is proved for every float carrier, so it is the frame of the first.
-/
module

public import proofs.«01_k».proof.Defs
public import proofs.«01_k».proof.Proof.Gen.Gateup
public import proofs.«01_k».proof.Proof.CallFrame

@[expose] public section

noncomputable section

namespace Cert.Gateup.Hand

open Idealize.ShloMosaic Idealize.ShloMosaic.TcCoe Idealize.SL.Sem

set_option smartUnfolding false in
/-- The kernel bodies of the two programs are the same. -/
theorem defs₀_eq : Cert.Gateup.defs₀ (F := Bits) = Cert.GateupIdeal.defs₀ (F := Bits) := by rfl

/-- So are their body tables. -/
theorem defs_eq : Cert.Gateup.defs (F := Bits) = Cert.GateupIdeal.defs (F := Bits) := by
  unfold Cert.Gateup.defs Cert.GateupIdeal.defs
  exact congrArg (Pipeline.defs Cert.GateupIdeal.pcfgs) defs₀_eq

/-- And their main programs. -/
theorem main_eq : Cert.Gateup.main (F := Bits) = Cert.GateupIdeal.main (F := Bits) := by rfl

/-- The kernel in floats runs, ends with its arguments unchanged and every counter at zero. -/
theorem quiescent : Cert.quiescent_Gateup := by
  intro m g _
  have h := Cert.GateupIdeal.Hand.frame (F := Bits) m g
  rw [← defs_eq, ← main_eq] at h
  exact h

end Cert.Gateup.Hand

end
-- ==== Proof.CallValue.lean ====
/-
The two result arrays of the gate/up call by itself after the run: row block `b` of each is what the last column step of that
row block stored.
-/
module

public import proofs.«01_k».proof.Proof.CallFrame
public import Idealize.ShloMosaic.Lib.Pipeline.ValueKit
public import Idealize.ShloMosaic.Lib.Pointwise

@[expose] public section

set_option maxRecDepth 16384

noncomputable section

namespace Cert.GateupIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateupIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The index of row `r`, column `k` of a block of codes. -/
abbrev at2 {a b : ℕ} (r : Fin a) (k : Fin b) : (⟨2, ![a, b]⟩ : Shape).Idx := ix2 r k

/-- The array of codes: row `i` is row `i % 512` of row block `i / 512`. -/
def codesArr (c : Dev nD) : Vec F S24576x5120 .fp8e4m3 := fun i =>
  codesOf m c ((i 0).val / 512) (ix2 (⟨(i 0).val % 512, Nat.mod_lt _ (by decide)⟩ : Fin 512) (i 1 : Fin 5120))

/-- The array of scales. -/
def scaleArr (c : Dev nD) : Vec F S24576x1 .f32 := fun i =>
  scaleOf m c ((i 0).val / 512) (ix2 (⟨(i 0).val % 512, Nat.mod_lt _ (by decide)⟩ : Fin 512) (i 1 : Fin 1))

theorem index6 : ∀ t : Fin cfg0.N, win0_6.index t = ![t.val / 10, 0] :=
  (by decide +kernel : ∀ t : Fin grid0.N, win0_6.index t = ![t.val / 10, 0])

theorem index7 : ∀ t : Fin cfg0.N, win0_7.index t = ![t.val / 10, 0] :=
  (by decide +kernel : ∀ t : Fin grid0.N, win0_7.index t = ![t.val / 10, 0])

theorem final6 (c : Dev nD) : (dats m 0 c).arrAt 6 cfg0.N = codesArr m c := by
  refine (dats m 0 c).arrAt_eq_of_covers 6 _ (by decide +kernel) fun t hf y => ?_
  blk_simp
  rw [after0_6]
  have hy0 : (y 0).val < 512 := (y 0).isLt
  have e0 : ((win0_6.blk t).view.emb y 0).val = t.val / 10 * 512 + (y 0).val := by blk_simp [index6 t]
  have e1 : ((win0_6.blk t).view.emb y 1).val = (y 1).val := by blk_simp [index6 t]
  unfold codesArr
  have hd : ((win0_6.blk t).view.emb y 0).val / 512 = t.val / 10 := by omega
  rw [hd]
  refine congrArg (codesOf m c (t.val / 10)) (funext fun a => Fin.ext ?_)
  match a with
  | ⟨0, _⟩ => show (y 0).val = ((win0_6.blk t).view.emb y 0).val % 512; omega
  | ⟨1, _⟩ => exact e1.symm

theorem final7 (c : Dev nD) : (dats m 0 c).arrAt 7 cfg0.N = scaleArr m c := by
  refine (dats m 0 c).arrAt_eq_of_covers 7 _ (by decide +kernel) fun t hf y => ?_
  blk_simp
  rw [after0_7]
  have hy0 : (y 0).val < 512 := (y 0).isLt
  have e0 : ((win0_7.blk t).view.emb y 0).val = t.val / 10 * 512 + (y 0).val := by blk_simp [index7 t]
  have e1 : ((win0_7.blk t).view.emb y 1).val = (y 1).val := by blk_simp [index7 t]
  unfold scaleArr
  have hd : ((win0_7.blk t).view.emb y 0).val / 512 = t.val / 10 := by omega
  rw [hd]
  refine congrArg (scaleOf m c (t.val / 10)) (funext fun a => Fin.ext ?_)
  match a with
  | ⟨0, _⟩ => show (y 0).val = ((win0_7.blk t).view.emb y 0).val % 512; omega
  | ⟨1, _⟩ => exact e1.symm

/-- After the run the two result arrays are `codesArr` and `scaleArr` and the arguments are as launched. -/
theorem run_arrays : θ_run defs (onTc (τ := τ) (main (F := F))) ⟨m, fun _ => 0, ρ⟩ fun r => ∀ c : Dev nD,
      r.2.mem ((c : Thread nD τ).loc main_v1_0) = codesArr m c
      ∧ r.2.mem ((c : Thread nD τ).loc main_v1_1) = scaleArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 6).trans (final6 m c), ((h.1 c).1 7).trans (final7 m c), h.2 c⟩)
    (θ_run_and (run_main m ρ) (unchanged m ρ))

end Cert.GateupIdeal.Hand

end
-- ==== Proof.CallIdealValue.lean ====
/-
The gate/up call by itself over the reals: what a tile holds, what the running maxima hold after the last column step, and the
entries of the two result arrays.
-/
module

public import proofs.«01_k».proof.Proof.CallValue
public import proofs.«01_k».proof.Proof.GateupIdealValue
public import proofs.«01_k».proof.Proof.Spec
public import Idealize.ShloMosaic.Lib.Pipeline.ValueKit
public import Idealize.ShloMosaic.Lib.Pointwise

@[expose] public section

set_option maxRecDepth 16384

noncomputable section

namespace Cert.GateupIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateupIdeal.Gen Cert.Exponent Cert.Spec

variable (m : (ℓ : Loc nD τ sig) → Buf (Elt Ideal) ℓ)

/-! ### Blocks as entries of the arguments -/

theorem index0 : ∀ t : Fin cfg0.N, win0_0.index t = ![t.val / 10, 0] :=
  (by decide +kernel : ∀ t : Fin grid0.N, win0_0.index t = ![t.val / 10, 0])
theorem index1 : ∀ t : Fin cfg0.N, win0_1.index t = ![t.val / 10, 0] :=
  (by decide +kernel : ∀ t : Fin grid0.N, win0_1.index t = ![t.val / 10, 0])
theorem index2 : ∀ t : Fin cfg0.N, win0_2.index t = ![0, t.val % 10] :=
  (by decide +kernel : ∀ t : Fin grid0.N, win0_2.index t = ![0, t.val % 10])
theorem index3 : ∀ t : Fin cfg0.N, win0_3.index t = ![0, t.val % 10 + 10] :=
  (by decide +kernel : ∀ t : Fin grid0.N, win0_3.index t = ![0, t.val % 10 + 10])
theorem index4 : ∀ t : Fin cfg0.N, win0_4.index t = ![0, t.val % 10] :=
  (by decide +kernel : ∀ t : Fin grid0.N, win0_4.index t = ![0, t.val % 10])
theorem index5 : ∀ t : Fin cfg0.N, win0_5.index t = ![0, t.val % 10 + 10] :=
  (by decide +kernel : ∀ t : Fin grid0.N, win0_5.index t = ![0, t.val % 10 + 10])

theorem lt480 (t : Fin cfg0.N) : t.val < 480 := lt_of_lt_of_eq t.isLt (by decide +kernel)

theorem read0 (c : Dev nD) (t : Fin cfg0.N) (r : Fin 512) (k : Fin 7168) :
    iblk m c 0 t (ix2 r k) = m ((c : Thread nD τ).loc main_arg0) (ix2 (⟨t.val / 10 * 512 + r.val, by have := lt480 t; omega⟩ : Fin 24576) k) := by
  blk_point [iblk, V, index0 t]
theorem read1 (c : Dev nD) (t : Fin cfg0.N) (r : Fin 512) :
    iblk m c 1 t (ix2 r 0) = m ((c : Thread nD τ).loc main_arg1) (ix2 (⟨t.val / 10 * 512 + r.val, by have := lt480 t; omega⟩ : Fin 24576) 0) := by
  blk_point [iblk, V, index1 t]
theorem read2 (c : Dev nD) (t : Fin cfg0.N) (k : Fin 7168) (q : Fin 512) :
    iblk m c 2 t (ix2 k q) = m ((c : Thread nD τ).loc main_arg2) (ix2 k (⟨t.val % 10 * 512 + q.val, by have := lt480 t; omega⟩ : Fin 10240)) := by
  blk_point [iblk, V, index2 t]
theorem read3 (c : Dev nD) (t : Fin cfg0.N) (k : Fin 7168) (q : Fin 512) :
    iblk m c 3 t (ix2 k q) = m ((c : Thread nD τ).loc main_arg2) (ix2 k (⟨(t.val % 10 + 10) * 512 + q.val, by have := lt480 t; omega⟩ : Fin 10240)) := by
  blk_point [iblk, V, index3 t]
theorem read4 (c : Dev nD) (t : Fin cfg0.N) (q : Fin 512) :
    iblk m c 4 t (ix2 0 q) = m ((c : Thread nD τ).loc main_arg3) (ix1 (⟨t.val % 10 * 512 + q.val, by have := lt480 t; omega⟩ : Fin 10240)) := by
  blk_simp [iblk, V, index4 t]
  entry_read
  pointwise
  refine congrArg (m (c, Proc.tc.devRef main_arg3)) (congrArg ix1 (Fin.ext ?_))
  show ((win0_4.blk t).view.emb (ix2 0 q) 1).val = _
  blk_simp [index4 t]
theorem read5 (c : Dev nD) (t : Fin cfg0.N) (q : Fin 512) :
    iblk m c 5 t (ix2 0 q) = m ((c : Thread nD τ).loc main_arg3) (ix1 (⟨(t.val % 10 + 10) * 512 + q.val, by have := lt480 t; omega⟩ : Fin 10240)) := by
  blk_simp [iblk, V, index5 t]
  entry_read
  pointwise
  refine congrArg (m (c, Proc.tc.devRef main_arg3)) (congrArg ix1 (Fin.ext ?_))
  show ((win0_5.blk t).view.emb (ix2 0 q) 1).val = _
  blk_simp [index5 t]

/-! ### A tile -/

/-- The four arguments, as arrays. -/
abbrev aX (c : Dev nD) : Arr 24576 7168 := m ((c : Thread nD τ).loc main_arg0)
abbrev aS (c : Dev nD) : Arr 24576 1 := m ((c : Thread nD τ).loc main_arg1)
abbrev aW (c : Dev nD) : Arr 7168 10240 := m ((c : Thread nD τ).loc main_arg2)
abbrev aV (c : Dev nD) : Row 10240 := m ((c : Thread nD τ).loc main_arg3)

/-- The hidden entries of device `c`. -/
def hidM (c : Dev nD) (r : Fin 24576) (k : Fin 5120) : EReal := hid (aX m c) (aS m c) (aW m c) (aV m c) r k

/-- The tile of point `t` holds the hidden entries of its rows and columns. -/
theorem pay48_at (c : Dev nD) (t : Fin cfg0.N) (r q : Fin 512) :
    k0_pay48 (iblk m c 0 t) (iblk m c 1 t) (iblk m c 2 t) (iblk m c 3 t) (iblk m c 4 t) (iblk m c 5 t) (ix2 r q)
      = hidM m c ⟨t.val / 10 * 512 + r.val, by have := lt480 t; omega⟩ ⟨t.val % 10 * 512 + q.val, by omega⟩ := by
  pointwise [k0_pay48]
  simp only [read0, read1, read2, read3, read4, read5]
  unfold hidM hid prod
  have e : (⟨(t.val % 10 + 10) * 512 + q.val, by omega⟩ : Fin 10240) = ⟨5120 + (t.val % 10 * 512 + q.val), by omega⟩ := by rw [Fin.mk.injEq]; omega
  rw [e]

theorem ptOf_of_lt (n : ℕ) (h : n < 480) : (ptOf n).val = n := ptOf_val ⟨n, lt_of_lt_of_eq h (by decide +kernel)⟩ ▸ rfl

theorem tile_at (c : Dev nD) (b j : ℕ) (hb : b < 48) (hj : j < 10) (r q : Fin 512) :
    tileAt m c (10 * b + j) (ix3 0 r q) = hidM m c ⟨b * 512 + r.val, by omega⟩ ⟨j * 512 + q.val, by omega⟩ := by
  have v := ptOf_of_lt (10 * b + j) (by omega)
  unfold tileAt
  pointwise [k0_pay49]
  rw [pay48_at]
  congr 1 <;> (rw [Fin.mk.injEq, v]; omega)

/-! ### The running maxima -/

/-- Lane `l` after one column step holds the largest magnitude of the step's columns `l`, `128 + l`, `256 + l`, `384 + l`. -/
theorem lane_le (c : Dev nD) (b j : ℕ) (hb : b < 48) (hj : j < 10) (r : Fin 512) (l : Fin 128) (T : EReal) :
    laneAt m c (10 * b + j) (ix2 r l) ≤ T ↔
      ∀ g : Fin 4, mag (hidM m c ⟨b * 512 + r.val, by omega⟩ ⟨j * 512 + (128 * g.val + l.val), by omega⟩) ≤ T := by
  have v := ptOf_of_lt (10 * b + j) (by omega)
  have e (q : Fin 512) : k0_pay48 (iblk m c 0 (ptOf (10 * b + j))) (iblk m c 1 (ptOf (10 * b + j))) (iblk m c 2 (ptOf (10 * b + j)))
      (iblk m c 3 (ptOf (10 * b + j))) (iblk m c 4 (ptOf (10 * b + j))) (iblk m c 5 (ptOf (10 * b + j))) (ix2 r q)
      = hidM m c ⟨b * 512 + r.val, by omega⟩ ⟨j * 512 + q.val, by omega⟩ := by
    rw [pay48_at]
    congr 1 <;> (rw [Fin.mk.injEq, v]; omega)
  unfold laneAt laneMax
  pointwise [k0_pay50]
  simp only [e, max_le_iff]
  exact ⟨fun ⟨⟨⟨h0, h1⟩, h2⟩, h3⟩ => ⟨h0, h1, h2, h3⟩, fun ⟨h0, h1, h2, h3⟩ => ⟨⟨⟨h0, h1⟩, h2⟩, h3⟩⟩

theorem amax_le (c : Dev nD) (b : ℕ) (hb : b < 48) (r : Fin 512) (l : Fin 128) (T : EReal) : ∀ j : ℕ, j < 10 →
    (amaxUpTo m c b j (ix2 r l) ≤ T ↔ ∀ i : ℕ, i ≤ j → laneAt m c (10 * b + i) (ix2 r l) ≤ T)
  | 0, _ => by
    have e : amaxUpTo m c b 0 (ix2 r l) = laneAt m c (10 * b) (ix2 r l) := by unfold amaxUpTo; pointwise [k0_pay1]
    rw [e]
    exact ⟨fun h i hi => by obtain rfl : i = 0 := by omega
                            exact h, fun h => h 0 le_rfl⟩
  | j + 1, hj => by
    have e : amaxUpTo m c b (j + 1) (ix2 r l) = max (amaxUpTo m c b j (ix2 r l)) (laneAt m c (10 * b + (j + 1)) (ix2 r l)) := by
      rw [amaxUpTo]; pointwise [k0_pay2]
    rw [e, max_le_iff, amax_le c b hb r l T j (by omega)]
    exact ⟨fun h i hi => by rcases Nat.lt_or_ge i (j + 1) with h' | h'
                            · exact h.1 i (by omega)
                            · obtain rfl : i = j + 1 := by omega
                              exact h.2, fun h => ⟨fun i hi => h i (by omega), h (j + 1) le_rfl⟩⟩

/-- After the last column step the row's maximum over the lanes is its largest magnitude over all 5120 columns. -/
theorem rowTop (c : Dev nD) (b : ℕ) (hb : b < 48) (r : Fin 512) :
    k0_pay5 (amaxUpTo m c b 9) (ix2 r 0) = top (hidM m c ⟨b * 512 + r.val, by omega⟩) := by
  pointwise [k0_pay5]
  rw [fold_max]
  refine eq_of_forall_ge_iff fun T => ?_
  unfold top
  simp only [Finset.sup_le_iff, Finset.mem_univ, true_implies]
  constructor
  · intro h k
    have := (lane_le m c b (k.val / 512) hb (by omega) r ⟨k.val % 128, by omega⟩ T).mp
      ((amax_le m c b hb r ⟨k.val % 128, by omega⟩ T 9 (by norm_num)).mp (h _) (k.val / 512) (by omega)) ⟨k.val % 512 / 128, by omega⟩
    have e : (⟨k.val / 512 * 512 + (128 * (k.val % 512 / 128) + k.val % 128), by omega⟩ : Fin 5120) = k := Fin.ext (by show k.val / 512 * 512 + (128 * (k.val % 512 / 128) + k.val % 128) = k.val; omega)
    rw [← e]; exact this
  · intro h l
    exact (amax_le m c b hb r l T 9 (by norm_num)).mpr fun i hi => (lane_le m c b i hb (by omega) r l T).mpr fun g => h _

/-! ### The scale of a row: the body is that of the whole kernel's second call, whose lemmas are used -/

theorem scaleBlk_at (a : Vec Ideal S512x128 .f32) (i : S512x1.Idx) : scaleBlk a i = kScale (k0_pay5 a i) :=
  Cert.KernelIdeal.Hand.Gateup.scaleBlk_at a i

theorem invBlk_at (a : Vec Ideal S512x128 .f32) (i : S512x1.Idx) : invBlk a i = kInv (k0_pay5 a i) :=
  Cert.KernelIdeal.Hand.Gateup.invBlk_at a i

/-! ### The entries of the two results -/

/-- One entry of a code piece: the tile's entry times the inverse scale of its row, clipped. -/
theorem piece_at (c : Dev nD) (b j : ℕ) (hb : b < 48) (hj : j < 10) (r : Fin 512) (k : Fin 5120) (x0 x1 : Fin 512)
    (h0 : r.val = x0.val) (h1 : k.val = j * 512 + x1.val) :
    min (Ideal.ofBits .f32 1138753536#32) (max (Ideal.ofBits .f32 3286237184#32)
        (tileAt m c (10 * b + j) (ix3 0 x0 x1) * invBlk (amaxUpTo m c b 9) (ix2 x0 0)))
      = code (top (hidM m c ⟨b * 512 + r.val, by omega⟩)) (hidM m c ⟨b * 512 + r.val, by omega⟩ k) := by
  obtain rfl : r = x0 := Fin.ext h0
  have e : k = ⟨j * 512 + x1.val, by omega⟩ := Fin.ext h1
  rw [invBlk_at, rowTop m c b hb r, inv_eq _ (top_nonneg _), tile_at m c b j hb hj, e]
  rfl

/-- The entry of a row block of codes. -/
theorem codesOf_at (c : Dev nD) (b : ℕ) (hb : b < 48) (r : Fin 512) (k : Fin 5120) :
    codesOf m c b (ix2 r k) = code (top (hidM m c ⟨b * 512 + r.val, by omega⟩)) (hidM m c ⟨b * 512 + r.val, by omega⟩ k) := by
  have inv35 : k0_pay35 (F := Ideal) (expTerm (amaxUpTo m c b 9)) (k0_pay32 (k0_pay5 (amaxUpTo m c b 9))) = invBlk (amaxUpTo m c b 9) := by
    unfold invBlk; rfl
  unfold codesOf codesBlk codesL
  canon_tiles x h
  · pointwise [k0_pay4]
    exact piece_at m c b 9 hb (by norm_num) r k (x 0) (x 1) h0 (h1.trans (by omega))
  · pointwise [k0_pay3, k0_pay46, k0_pay47]
    exact piece_at m c b 8 hb (by norm_num) r k (x 0) (x 1) h0 (h1.trans (by omega))
  · pointwise [k0_pay45]
    exact piece_at m c b 7 hb (by norm_num) r k (x 0) (x 1) h0 (h1.trans (by omega))
  · pointwise [k0_pay44]
    exact piece_at m c b 6 hb (by norm_num) r k (x 0) (x 1) h0 (h1.trans (by omega))
  · pointwise [k0_pay43, k0_pay41, k0_pay42]
    exact piece_at m c b 5 hb (by norm_num) r k (x 0) (x 1) h0 (h1.trans (by omega))
  · pointwise [k0_pay40]
    exact piece_at m c b 4 hb (by norm_num) r k (x 0) (x 1) h0 (h1.trans (by omega))
  · pointwise [k0_pay39]
    exact piece_at m c b 3 hb (by norm_num) r k (x 0) (x 1) h0 (h1.trans (by omega))
  · pointwise [k0_pay38]
    exact piece_at m c b 2 hb (by norm_num) r k (x 0) (x 1) h0 (h1.trans (by omega))
  · unfold k0_pay37
    rw [inv35]
    pointwise
    exact piece_at m c b 1 hb (by norm_num) r k (x 0) (x 1) h0 (h1.trans (by omega))
  · unfold k0_pay36
    rw [inv35]
    pointwise
    exact piece_at m c b 0 hb (by norm_num) r k (x 0) (x 1) h0 (h1.trans (by omega))

/-- The entry of a row block of scales. -/
theorem scaleOf_at (c : Dev nD) (b : ℕ) (hb : b < 48) (r : Fin 512) :
    scaleOf m c b (ix2 r 0) = rScale (top (hidM m c ⟨b * 512 + r.val, by omega⟩)) := by
  unfold scaleOf
  rw [scaleBlk_at, rowTop m c b hb r, scale_eq _ (top_nonneg _)]

theorem row_split (r : Fin 24576) : (⟨r.val / 512 * 512 + r.val % 512, by omega⟩ : Fin 24576) = r :=
  Fin.ext (Nat.div_add_mod' _ _)

/-- An entry of the array of codes: the hidden entry, quantised by its row's largest magnitude. -/
theorem codesArr_at (c : Dev nD) (r : Fin 24576) (k : Fin 5120) :
    codesArr m c (ix2 r k) = code (top (hidM m c r)) (hidM m c r k) := by
  show codesOf m c (r.val / 512) (ix2 (⟨r.val % 512, Nat.mod_lt _ (by decide)⟩ : Fin 512) k) = _
  rw [codesOf_at m c _ (by omega)]
  simp only [row_split]

/-- An entry of the array of scales. -/
theorem scaleArr_at (c : Dev nD) (r : Fin 24576) : scaleArr m c (ix2 r 0) = rScale (top (hidM m c r)) := by
  show scaleOf m c (r.val / 512) (ix2 (⟨r.val % 512, Nat.mod_lt _ (by decide)⟩ : Fin 512) 0) = _
  rw [scaleOf_at m c _ (by omega)]
  simp only [row_split]

end Cert.GateupIdeal.Hand

end
-- ==== Proof.CallReferenceValue.lean ====
/-
The reference of the gate/up call by itself, over the reals: the entries of its two result arrays.
-/
module

public import proofs.«01_k».proof.Proof.Gen.RefGateupIdeal.Value
public import proofs.«01_k».proof.Proof.Spec
public import Idealize.ShloMosaic.Lib.Pipeline.ValueKit
public import Idealize.ShloMosaic.Lib.Pointwise

@[expose] public section

set_option maxRecDepth 16384

noncomputable section

namespace Cert.RefGateupIdeal.Hand

open Cert.RefGateupIdeal Cert.RefGateupIdeal.Gen Idealize.ShloMosaic Idealize.ShloMosaic.TcCoe Idealize.ShloMosaic.Tactic Idealize.SL.Sem
open Idealize.ShloMosaic.Pipeline (Dat)
open Cert.Exponent Cert.Spec

/-! ### What the body computes, entry by entry -/

section
variable (x : Arr 24576 7168) (s : Arr 24576 1) (w : Arr 7168 10240) (v : Arr 1 10240)

/-- The scales of the weight columns, as an array of one axis. -/
abbrev flat : Row 10240 := fun i => v (ix2 0 (i 0))

theorem pay4_at (r : Fin 24576) (k : Fin 5120) : k0_pay4 (F := Ideal) x w s v (ix2 r k) = hid x s w (flat v) r k := by
  pointwise [k0_pay4]
  unfold hid prod flat
  rfl

theorem pay5_at (r : Fin 24576) : k0_pay5 (F := Ideal) x w s v (ix2 r 0) = top (hid x s w (flat v) r) := by
  pointwise [k0_pay5]
  rw [fold_max]
  unfold top
  simp only [pay4_at]

/-- The exponent of a row, from its largest magnitude `a`, before the test for a zero row. -/
theorem pay6_gen (a : FVec Ideal S24576x1 .f32) (h : k0_pay5 (F := Ideal) x w s v = a) (i : S24576x1.Idx) :
    k0_pay6 (F := Ideal) x w s v i = rExp0 (over (a i)) := by
  unfold k0_pay6
  rw [h]
  rfl

/-- The test for a zero row. -/
theorem pay7_gen (a : FVec Ideal S24576x1 .f32) (h : k0_pay5 (F := Ideal) x w s v = a) (i : S24576x1.Idx) :
    k0_pay7 (F := Ideal) x w s v i = FloatOps.cmpf .oeq (a i) (FloatOps.ofBits (F := Ideal) .f32 0x00000000#32) := by
  unfold k0_pay7
  rw [h]
  rfl

theorem pay1_at (e : FVec Ideal S24576x1 .f32) (z : IVec S24576x1 1) (o : Ideal .f32) (i : S24576x1.Idx) :
    k0_pay1 (F := Ideal) e z o i = Scalar.select (z i) o (e i) := rfl

theorem pay2_at (e : FVec Ideal S24576x1 .f32) (z : IVec S24576x1 1) (o : Ideal .f32) (i : S24576x1.Idx) :
    k0_pay2 (F := Ideal) e z o i = FloatOps.exp2 (k0_pay1 (F := Ideal) e z o i) := rfl

/-- The exponent of a row, from its largest magnitude. -/
theorem exp_gen (a : FVec Ideal S24576x1 .f32) (h : k0_pay5 (F := Ideal) x w s v = a) (i : S24576x1.Idx) :
    k0_pay1 (F := Ideal) (k0_pay6 (F := Ideal) x w s v) (k0_pay7 (F := Ideal) x w s v) (FloatOps.ofBits (F := Ideal) .f32 0x00000000#32) i = rExp (a i) := by
  refine (pay1_at _ _ _ i).trans ?_
  rw [pay6_gen x s w v a h, pay7_gen x s w v a h, rExp]

/-- Row `r`'s scale. -/
theorem scale_at (r : Fin 24576) : k0_pay2 (F := Ideal) (k0_pay6 (F := Ideal) x w s v) (k0_pay7 (F := Ideal) x w s v) (FloatOps.ofBits (F := Ideal) .f32 0x00000000#32) (ix2 r 0)
    = rScale (top (hid x s w (flat v) r)) := by
  refine (pay2_at _ _ _ _).trans ?_
  obtain ⟨a, ha⟩ : ∃ a : FVec Ideal S24576x1 .f32, k0_pay5 (F := Ideal) x w s v = a := ⟨_, rfl⟩
  rw [exp_gen x s w v a ha, ← pay5_at, ha, rScale]

theorem pay3_at (h : FVec Ideal S24576x5120 .f32) (e : FVec Ideal S24576x1 .f32) (z : IVec S24576x1 1) (o : Ideal .f32) (r : Fin 24576) (k : Fin 5120) :
    k0_pay3 (F := Ideal) h e z o (ix2 r k) = min (Ideal.ofBits .f32 0x43E00000#32) (max (Ideal.ofBits .f32 0xC3E00000#32)
      (h (ix2 r k) * FloatOps.exp2 (F := Ideal) (φ := .f32) (FloatOps.subf (FloatOps.ofBits (F := Ideal) .f32 0x00000000#32) (k0_pay1 (F := Ideal) e z o (ix2 r 0))))) := by
  unfold k0_pay3
  generalize k0_pay1 (F := Ideal) e z o = b
  pointwise

/-- The code of entry `(r, k)`. -/
theorem codes_at (r : Fin 24576) (k : Fin 5120) :
    k0_pay3 (F := Ideal) (k0_pay4 (F := Ideal) x w s v) (k0_pay6 (F := Ideal) x w s v) (k0_pay7 (F := Ideal) x w s v) (FloatOps.ofBits (F := Ideal) .f32 0x00000000#32) (ix2 r k)
      = code (top (hid x s w (flat v) r)) (hid x s w (flat v) r k) := by
  refine (pay3_at _ _ _ _ r k).trans ?_
  obtain ⟨a, ha⟩ : ∃ a : FVec Ideal S24576x1 .f32, k0_pay5 (F := Ideal) x w s v = a := ⟨_, rfl⟩
  rw [exp_gen x s w v a ha, pay4_at, ← pay5_at, ha, code, rInv]

/-- The scales the body leaves. -/
theorem out5_at (r : Fin 24576) : out0_5 (F := Ideal) x s w v (ix2 r 0) = rScale (top (hid x s w (flat v) r)) := by
  refine Eq.trans ?_ (scale_at x s w v r)
  unfold_out out0_5
  frame_out

/-- The codes the body leaves. -/
theorem out4_at (r : Fin 24576) (k : Fin 5120) : out0_4 (F := Ideal) x s w v (ix2 r k) = code (top (hid x s w (flat v) r)) (hid x s w (flat v) r k) := by
  refine Eq.trans ?_ (codes_at x s w v r k)
  unfold_out out0_4
  frame_out

end

variable (m : (ℓ : Loc nD τ sig) → Buf (Elt Ideal) ℓ) (ρ : Dev nD → PrngReg)

/-! ### The result arrays -/

abbrev aX (c : Dev nD) : Arr 24576 7168 := m ((c : Thread nD τ).loc main_arg0)
abbrev aS (c : Dev nD) : Arr 24576 1 := m ((c : Thread nD τ).loc main_arg1)
abbrev aW (c : Dev nD) : Arr 7168 10240 := m ((c : Thread nD τ).loc main_arg2)
abbrev aV (c : Dev nD) : Row 10240 := m ((c : Thread nD τ).loc main_arg3)

/-- The hidden entries of device `c`. -/
def hidM (c : Dev nD) (r : Fin 24576) (k : Fin 5120) : EReal := hid (aX m c) (aS m c) (aW m c) (aV m c) r k

theorem index0 : win0_0.index t0_0 = ![0, 0] := by decide +kernel
theorem index1 : win0_1.index t0_0 = ![0, 0] := by decide +kernel
theorem index2 : win0_2.index t0_0 = ![0, 0] := by decide +kernel
theorem index3 : win0_3.index t0_0 = ![0, 0] := by decide +kernel

theorem read0 (c : Dev nD) (r : Fin 24576) (k : Fin 7168) : iblk m c 0 t0_0 (ix2 r k) = m ((c : Thread nD τ).loc main_arg0) (ix2 r k) := by
  blk_point [iblk, V, index0]
theorem read1 (c : Dev nD) (r : Fin 24576) : iblk m c 1 t0_0 (ix2 r 0) = m ((c : Thread nD τ).loc main_arg1) (ix2 r 0) := by
  blk_point [iblk, V, index1]
theorem read2 (c : Dev nD) (k : Fin 7168) (n : Fin 10240) : iblk m c 2 t0_0 (ix2 k n) = m ((c : Thread nD τ).loc main_arg2) (ix2 k n) := by
  blk_point [iblk, V, index2]
theorem read3 (c : Dev nD) (n : Fin 10240) : iblk m c 3 t0_0 (ix2 0 n) = m ((c : Thread nD τ).loc main_arg3) (ix1 n) := by
  blk_simp [iblk, V, index3]
  entry_read
  pointwise
  refine congrArg (m (c, Proc.tc.devRef main_arg3)) (congrArg ix1 (Fin.ext ?_))
  show ((win0_3.blk t0_0).view.emb (ix2 0 n) 1).val = _
  blk_simp [index3]

/-- The body's hidden entries are those of the arguments. -/
theorem hid_iblk (c : Dev nD) (r : Fin 24576) : hid (iblk m c 0 t0_0) (iblk m c 1 t0_0) (iblk m c 2 t0_0) (flat (iblk m c 3 t0_0)) r = hidM m c r := by
  have h0 : ∀ n : Fin 10240, flat (iblk m c 3 t0_0) (ix1 n) = aV m c (ix1 n) := fun n => read3 m c n
  funext k
  unfold hidM hid prod
  simp only [h0, read0, read1, read2]

/-- The codes after the run. -/
theorem codesArr_at (c : Dev nD) : (dats m 0 c).arrAt 4 cfg0.N
    = fun i : S24576x5120.Idx => code (top (hidM m c (i 0))) (hidM m c (i 0) (i 1)) := by
  refine (dats m 0 c).arrAt_eq_of_after_last 4 t0_0 (by decide +kernel) _ fun j => ?_
  blk_simp
  rw [after0_4]
  obtain ⟨r, k, rfl⟩ : ∃ (r : Fin 24576) (k : Fin 5120), j = ix2 r k := ⟨j 0, j 1, (ix2_eta j).symm⟩
  refine (out4_at _ _ _ _ r k).trans ?_
  show _ = code (top (hidM m c r)) (hidM m c r k)
  rw [hid_iblk]

/-- The scales after the run. -/
theorem scaleArr_at (c : Dev nD) : (dats m 0 c).arrAt 5 cfg0.N
    = fun i : S24576x1.Idx => rScale (top (hidM m c (i 0))) := by
  refine (dats m 0 c).arrAt_eq_of_after_last 5 t0_0 (by decide +kernel) _ fun j => ?_
  blk_simp
  rw [after0_5]
  obtain ⟨r, rfl⟩ : ∃ r : Fin 24576, j = ix2 r 0 := ⟨j 0, by rw [show (0 : Fin 1) = j 1 from Subsingleton.elim _ _]; exact (ix2_eta j).symm⟩
  refine (out5_at _ _ _ _ r).trans ?_
  show _ = rScale (top (hidM m c r))
  rw [hid_iblk]

end Cert.RefGateupIdeal.Hand

end
-- ==== Proof.CallEquation.lean ====
/-
The equation of the gate/up call by itself and its reference over the reals: from equal arguments both runs leave the same codes
and the same scales.
-/
module

public import proofs.«01_k».proof.Defs
public import proofs.«01_k».proof.Proof.CallIdealValue
public import proofs.«01_k».proof.Proof.CallReferenceValue

@[expose] public section

noncomputable section

namespace Cert.GateupEquation

open Idealize.ShloMosaic Idealize.ShloMosaic.TcCoe Idealize.SL.Sem
open Cert.Spec Cert.Exponent

/-- From memories that agree on the four arguments, the kernel and the reference both run, leave their arguments as they
    were, and leave equal codes and equal scales. -/
theorem algebraic : Cert.algebraic_GateupIdeal_RefGateupIdeal := by
  intro m g m' g' _ hm
  have hid_eq : ∀ c : Dev Cert.GateupIdeal.nD, Cert.RefGateupIdeal.Hand.hidM m' c = Cert.GateupIdeal.Hand.hidM m c := by
    intro c
    funext r k
    obtain ⟨h0, h1, h2, h3⟩ := hm c
    unfold Cert.RefGateupIdeal.Hand.hidM Cert.GateupIdeal.Hand.hidM
    unfold Cert.RefGateupIdeal.Hand.aX Cert.RefGateupIdeal.Hand.aS Cert.RefGateupIdeal.Hand.aW Cert.RefGateupIdeal.Hand.aV
    rw [h0, h1, h2, h3]
  refine ⟨fun c => Cert.GateupIdeal.Hand.codesArr m c, fun c => Cert.GateupIdeal.Hand.scaleArr m c,
    Cert.GateupIdeal.Hand.run_arrays m g, ?_⟩
  refine (θ_run _ _ _).mono (fun r h c => ?_) (Cert.RefGateupIdeal.Value.run_blocks m' g')
  obtain ⟨h4, h5, ha⟩ := h c
  refine ⟨h4.trans ((Cert.RefGateupIdeal.Hand.codesArr_at m' c).trans ?_),
    h5.trans ((Cert.RefGateupIdeal.Hand.scaleArr_at m' c).trans ?_), ha⟩
  · funext i
    obtain ⟨r, k, rfl⟩ : ∃ (r : Fin 24576) (k : Fin 5120), i = ix2 r k := ⟨i 0, i 1, (ix2_eta i).symm⟩
    refine Eq.trans ?_ (Cert.GateupIdeal.Hand.codesArr_at m c r k).symm
    rw [hid_eq c]
    rfl
  · funext i
    obtain ⟨r, rfl⟩ : ∃ r : Fin 24576, i = ix2 r 0 :=
      ⟨i 0, by rw [show (0 : Fin 1) = i 1 from Subsingleton.elim _ _]; exact (ix2_eta i).symm⟩
    refine Eq.trans ?_ (Cert.GateupIdeal.Hand.scaleArr_at m c r).symm
    rw [hid_eq c]
    rfl

end Cert.GateupEquation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Gateup
public import proofs.«01_k».proof.Proof.Gen.GateupIdeal
public import proofs.«01_k».proof.Proof.Gen.RefGateupIdeal
public import proofs.«01_k».proof.Proof.Gen.RefGateupIdeal.Frame
public import proofs.«01_k».proof.Proof.Gen.RefGateupIdeal.Value
public import proofs.«01_k».proof.Proof.WholeRun
public import proofs.«01_k».proof.Proof.WholeBits
public import proofs.«01_k».proof.Proof.WholeEquation
public import proofs.«01_k».proof.Proof.CallFrame
public import proofs.«01_k».proof.Proof.CallBits
public import proofs.«01_k».proof.Proof.CallEquation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Gateup.Gen.facts, Cert.GateupIdeal.Gen.facts, Cert.RefGateupIdeal.Gen.facts,
  Cert.Kernel.Hand.quiescent, fun m ρ _ => Cert.KernelIdeal.Hand.frame m ρ,
  fun m ρ _ => Cert.ReferenceIdeal.Gen.frame m ρ,
  Cert.Gateup.Hand.quiescent, fun m ρ _ => Cert.GateupIdeal.Hand.frame m ρ,
  fun m ρ _ => Cert.RefGateupIdeal.Gen.frame m ρ,
  trivial, Cert.WholeEquation.algebraic, trivial, Cert.GateupEquation.algebraic⟩

end Cert.Proof

end
